-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S8x4096x1024 .f32) (main_arg1 : FVec F S1024x1024 .f32) (main_arg2 : FVec F S1024 .f32) (main_arg3 : FVec F S1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  main_v3
-- ==== Kernel.lean ====
abbrev S8x4096x1024 : Shape := ⟨3, ![8, 4096, 1024]⟩
abbrev S1024x1024 : Shape := ⟨2, ![1024, 1024]⟩
abbrev S1024 : Shape := ⟨1, ![1024]⟩
abbrev S64x64 : Shape := ⟨2, ![64, 64]⟩
abbrev S8x128 : Shape := ⟨2, ![8, 128]⟩
abbrev S_ : Shape := ⟨0, ![]⟩
abbrev S128x128 : Shape := ⟨2, ![128, 128]⟩
abbrev S1x1024 : Shape := ⟨2, ![1, 1024]⟩
abbrev S2x512x1024 : Shape := ⟨3, ![2, 512, 1024]⟩
abbrev S2x128 : Shape := ⟨2, ![2, 128]⟩
abbrev S2x1024 : Shape := ⟨2, ![2, 1024]⟩
abbrev S2x512x128 : Shape := ⟨3, ![2, 512, 128]⟩
abbrev S1x512x128 : Shape := ⟨3, ![1, 512, 128]⟩
abbrev S512x128 : Shape := ⟨2, ![512, 128]⟩
abbrev S1x512x1024 : Shape := ⟨3, ![1, 512, 1024]⟩
abbrev S512x1024 : Shape := ⟨2, ![512, 1024]⟩
abbrev S1x128 : Shape := ⟨2, ![1, 128]⟩
abbrev S128 : Shape := ⟨1, ![128]⟩
abbrev S512x2048 : Shape := ⟨2, ![512, 2048]⟩
abbrev S512x256 : Shape := ⟨2, ![512, 256]⟩
abbrev S64x2048 : Shape := ⟨2, ![64, 2048]⟩
abbrev S64x256 : Shape := ⟨2, ![64, 256]⟩
abbrev S1x2048 : Shape := ⟨2, ![1, 2048]⟩
abbrev S1x256 : Shape := ⟨2, ![1, 256]⟩
abbrev S1024x128 : Shape := ⟨2, ![1024, 128]⟩

abbrev nBuf : Space → Nat
  | .hbm => 12
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S64x64, .bf16⟩
  | .hbm, ⟨5, _⟩ => ⟨S1024x1024, .f32⟩
  | .hbm, ⟨6, _⟩ => ⟨S1024x1024, .bf16⟩
  | .hbm, ⟨7, _⟩ => ⟨S8x128, .f32⟩
  | .hbm, ⟨8, _⟩ => ⟨S_, .bf16⟩
  | .hbm, ⟨9, _⟩ => ⟨S128x128, .bf16⟩
  | .hbm, ⟨10, _⟩ => ⟨S1x1024, .f32⟩
  | .hbm, ⟨11, _⟩ => ⟨S8x4096x1024, .f32⟩
  | .local _ .vmem, ⟨0, _⟩ => ⟨S2x512x1024, .f32⟩
  | .local _ .vmem, ⟨1, _⟩ => ⟨S2x512x1024, .f32⟩
  | .local _ .vmem, ⟨2, _⟩ => ⟨S1024x1024, .bf16⟩
  | .local _ .vmem, ⟨3, _⟩ => ⟨S64x64, .bf16⟩
  | .local _ .vmem, ⟨4, _⟩ => ⟨S1x1024, .f32⟩
  | .local _ .vmem, ⟨5, _⟩ => ⟨S8x128, .f32⟩
  | .local _ .vmem, ⟨6, _⟩ => ⟨S128x128, .bf16⟩
  | .local _ .vmem, ⟨7, _⟩ => ⟨S2x512x1024, .f32⟩
  | .local _ .vmem, ⟨8, _⟩ => ⟨S2x512x1024, .f32⟩
  | .local _ .vmem, ⟨9, _⟩ => ⟨S2x128, .f32⟩
  | .local _ .vmem, ⟨10, _⟩ => ⟨S2x128, .f32⟩
  | .local _ .vmem, ⟨11, _⟩ => ⟨S2x1024, .f32⟩
  | .local _ .vmem, ⟨12, _⟩ => ⟨S2x512x128, .f32⟩
  | .local _ .vmem, ⟨13, _⟩ => ⟨S2x512x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![arg0.toNat, v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1x1024 : Shape := ⟨3, ![1, 1, 1024]⟩
abbrev S8x4096 : Shape := ⟨2, ![8, 4096]⟩
abbrev S_ : Shape := ⟨0, ![]⟩
abbrev S8 : Shape := ⟨1, ![8]⟩
abbrev S8x1 : Shape := ⟨2, ![8, 1]⟩
abbrev S8x4096x1 : Shape := ⟨3, ![8, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S8x4096x1024, .f32⟩
  | .hbm, ⟨5, _⟩ => ⟨S1x1x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096, .f32⟩
  | .hbm, ⟨10, _⟩ => ⟨S_, .f32⟩
  | .hbm, ⟨11, _⟩ => ⟨S8, .f32⟩
  | .hbm, ⟨12, _⟩ => ⟨S8x1, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S_, .f32⟩
  | .hbm, ⟨21, _⟩ => ⟨S8x4096x1024, .f32⟩
  | .hbm, ⟨22, _⟩ => ⟨S_, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_call0_cst : Ref sig .tc := ⟨.hbm, 19, rfl⟩
abbrev main_call0_call0_v0 : Ref sig .tc := ⟨.hbm, 20, rfl⟩
abbrev main_v14 : Ref sig .tc := ⟨.hbm, 21, rfl⟩
abbrev main_call1_call0_cst : Ref sig .tc := ⟨.hbm, 22, rfl⟩
abbrev main_call1_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Proof.Finite.lean ====
module

public import proofs.«01_k».proof.Pre_finite
public import Idealize.ShloMosaic.Lib.ReduceAll
public import Idealize.ShloMosaic.Lib.Pointwise

/-!
# The precondition

It says that every weight of the hidden units is a real.
-/

@[expose] public section

noncomputable section

namespace Cert.Pre_finite

open Idealize.ShloMosaic

/-- The shape relations the precondition takes. -/
theorem facts : Facts := ⟨by decide, by decide, by decide⟩

/-- The pattern of infinity. -/
theorem ofBits_inf : Ideal.ofBits .f32 0x7F800000#32 = ⊤ := by simp [Ideal.ofBits, Ideal.ieee]

/-- A number whose magnitude is below infinity is a real. -/
theorem real_of_abs_lt (x : EReal) (h : max x (-x) < ⊤) : ∃ r : ℝ, x = (r : EReal) := by
  induction x with
  | bot => simp at h
  | top => simp at h
  | coe x => exact ⟨x, rfl⟩

/-- Under the precondition every weight is a real. -/
theorem real_of_pre [Facts] (X : FVec Ideal S8x4096x1024 .f32) (W : FVec Ideal S1024x1024 .f32) (B Q : FVec Ideal S1024 .f32)
    (h : fn X W B Q = fun _ => 1#1) (e : Fin 1024) : ∃ r : ℝ, Q (ix1 e) = (r : EReal) := by
  have h0 := congrFun h ix0
  dsimp only [fn] at h0
  haveI : Subsingleton S_.Idx := ⟨fun a b => funext fun k => absurd k.isLt (Nat.not_lt_zero _)⟩
  have h1 := Host.reduce_andi_all _ _ _ _ _ h0 (ix1 e)
  apply real_of_abs_lt
  revert h1
  pointwise
  rw [ofBits_inf]
  intro h1
  by_contra hn
  rw [decide_eq_false (show ¬ FloatOps.absf (Q (ix1 e)) < (⊤ : EReal) from hn)] at h1
  exact absurd h1 (by decide)

end Cert.Pre_finite

end
-- ==== Proof.Softmax.lean ====
module

public import Idealize.ShloMosaic.Lib.Pointwise

/-!
# The running softmax in extended reals

One lane of the kernel keeps a maximum, a denominator and a numerator. These are the functions one block of 512 scores
applies to them, and the lemmas that say what they mean: the denominator and the numerator are prefix sums of
`exp (score - maximum)`, and the quotient of the two does not depend on the maximum.
-/

@[expose] public section

noncomputable section

namespace Cert.Softmax

open Idealize.ShloMosaic

/-- The maximum after a block with scores `S`. -/
def mN (mo : EReal) (S : Fin 512 → EReal) : EReal := max mo (Finset.univ.fold max ⊥ S)

/-- The weight of row `r` of the block. -/
def eN (mo : EReal) (S : Fin 512 → EReal) (r : Fin 512) : EReal := Ideal.exp (S r - mN mo S)

/-- The factor that rescales what was summed under the old maximum. -/
def aN (mo : EReal) (S : Fin 512 → EReal) : EReal := Ideal.exp (mo - mN mo S)

/-- The denominator at row `r` of the block. -/
def denN (mo d0 : EReal) (S : Fin 512 → EReal) (r : Fin 512) : EReal :=
  d0 * aN mo S + ∑ k : Fin 512, if k.val ≤ r.val then eN mo S k else 0

/-- The numerator at row `r` of the block, for one column `V` of values. -/
def numN (mo n0 : EReal) (S V : Fin 512 → EReal) (r : Fin 512) : EReal :=
  n0 * aN mo S + ∑ k : Fin 512, if k.val ≤ r.val then V k * eN mo S k else 0

/-- The sum of the first `n` values, each weighted with `exp (s u - M)`. -/
def wSum (s : ℕ → ℝ) (a : ℕ → EReal) (M : ℝ) (n : ℕ) : EReal :=
  ∑ u ∈ Finset.range n, a u * ((Real.exp (s u - M) : ℝ) : EReal)

/-- A nonnegative real distributes over a finite sum of extended reals. -/
theorem sum_mul_coe {ι : Type*} (T : Finset ι) (a : ι → EReal) (c : ℝ) (hc : 0 ≤ c) :
    (∑ i ∈ T, a i) * (c : EReal) = ∑ i ∈ T, a i * (c : EReal) := by
  classical
  induction T using Finset.induction_on with
  | empty => simp
  | insert i T hi ih =>
    rw [Finset.sum_insert hi, Finset.sum_insert hi,
      EReal.right_distrib_of_nonneg_of_ne_top (by exact_mod_cast hc) (EReal.coe_ne_top c), ih]

/-- A finite sum of reals, taken in the extended reals, is a real. -/
theorem sum_coe {ι : Type*} (T : Finset ι) (a : ι → ℝ) :
    (∑ i ∈ T, ((a i : ℝ) : EReal)) = ((∑ i ∈ T, a i : ℝ) : EReal) := by
  classical
  induction T using Finset.induction_on with
  | empty => simp
  | insert i T hi ih => rw [Finset.sum_insert hi, Finset.sum_insert hi, ih, EReal.coe_add]

/-- Changing the maximum rescales a weighted sum. -/
theorem wSum_shift (s : ℕ → ℝ) (a : ℕ → EReal) (M M' : ℝ) (n : ℕ) :
    wSum s a M n * ((Real.exp (M - M') : ℝ) : EReal) = wSum s a M' n := by
  unfold wSum
  rw [sum_mul_coe _ _ _ (Real.exp_pos _).le]
  refine Finset.sum_congr rfl fun u _ => ?_
  rw [mul_assoc, ← EReal.coe_mul, ← Real.exp_add, show s u - M + (M - M') = s u - M' by ring]

/-- A maximum of finitely many reals and one more real is a real. -/
theorem max_fold_coe {ι : Type*} (T : Finset ι) (g : ι → ℝ) (M : ℝ) :
    ∃ M' : ℝ, max (M : EReal) (T.fold max ⊥ fun i => ((g i : ℝ) : EReal)) = (M' : EReal) := by
  classical
  induction T using Finset.induction_on with
  | empty => exact ⟨M, by simp⟩
  | insert i T hi ih =>
    obtain ⟨M', h⟩ := ih
    exact ⟨max (g i) M', by
      rw [Finset.fold_insert hi, max_left_comm, h]
      exact (EReal.coe_strictMono.monotone.map_max).symm⟩

/-- The maximum of a nonempty finite family of reals is a real. -/
theorem fold_coe {n : ℕ} (g : Fin (n + 1) → ℝ) :
    ∃ M' : ℝ, ((Finset.univ : Finset (Fin (n + 1))).fold max ⊥ fun i => ((g i : ℝ) : EReal)) = (M' : EReal) := by
  obtain ⟨M', h⟩ := max_fold_coe (Finset.univ : Finset (Fin (n + 1))) g (g 0)
  exact ⟨M', (max_eq_right ((Finset.le_fold_max _).2 (.inr ⟨0, Finset.mem_univ _, le_rfl⟩))).symm.trans h⟩

/-- A sum over the rows up to `r` of a block is a sum over a range. -/
theorem sum_le_row (g : ℕ → EReal) (r : Fin 512) :
    (∑ k : Fin 512, if k.val ≤ r.val then g k.val else 0) = ∑ k ∈ Finset.range (r.val + 1), g k := by
  rw [Fin.sum_univ_eq_sum_range (fun n : ℕ => if n ≤ r.val then g n else 0) 512, ← Finset.sum_filter]
  refine Finset.sum_congr (Finset.ext fun n => ?_) fun _ _ => rfl
  rw [Finset.mem_filter, Finset.mem_range, Finset.mem_range]
  omega

/-- The new maximum is a real when the old one and the scores are. -/
theorem mN_coe (s : ℕ → ℝ) (M : ℝ) (n : ℕ) (S : Fin 512 → EReal) (hS : ∀ r, S r = ((s (n + r.val) : ℝ) : EReal)) :
    ∃ M' : ℝ, mN M S = (M' : EReal) := by
  rw [show S = fun r => ((s (n + r.val) : ℝ) : EReal) from funext hS]
  exact max_fold_coe _ _ _

/-- One block extends the numerator's prefix sums. -/
theorem numN_eq (s : ℕ → ℝ) (a : ℕ → EReal) (M M' : ℝ) (n : ℕ) (S V : Fin 512 → EReal)
    (hS : ∀ r, S r = ((s (n + r.val) : ℝ) : EReal)) (hV : ∀ r : Fin 512, V r = a (n + r.val)) (hM : mN M S = (M' : EReal))
    (r : Fin 512) : numN M (wSum s a M n) S V r = wSum s a M' (n + r.val + 1) := by
  unfold numN aN eN
  rw [hM, ← EReal.coe_sub, Ideal.exp_coe, wSum_shift]
  have e : ∀ k : Fin 512, (if k.val ≤ r.val then V k * Ideal.exp (S k - (M' : EReal)) else 0)
      = if k.val ≤ r.val then (fun u => a (n + u) * ((Real.exp (s (n + u) - M') : ℝ) : EReal)) k.val else 0 := fun k => by
    rw [hS, hV, ← EReal.coe_sub, Ideal.exp_coe]
  rw [Finset.sum_congr rfl fun k _ => e k, sum_le_row (fun u => a (n + u) * ((Real.exp (s (n + u) - M') : ℝ) : EReal)) r]
  unfold wSum
  rw [add_assoc n, Finset.sum_range_add _ n (r.val + 1)]

/-- One block extends the denominator's prefix sums. -/
theorem denN_eq (s : ℕ → ℝ) (M M' : ℝ) (n : ℕ) (S : Fin 512 → EReal)
    (hS : ∀ r, S r = ((s (n + r.val) : ℝ) : EReal)) (hM : mN M S = (M' : EReal))
    (r : Fin 512) : denN M (wSum s (fun _ => 1) M n) S r = wSum s (fun _ => 1) M' (n + r.val + 1) := by
  rw [← numN_eq s (fun _ => 1) M M' n S (fun _ => 1) hS (fun _ => rfl) hM r]
  unfold denN numN
  simp only [one_mul]

/-- The denominator is a positive real once it has a term. -/
theorem wSum_one (s : ℕ → ℝ) (M : ℝ) (n : ℕ) :
    ∃ d : ℝ, 0 < d ∧ wSum s (fun _ => 1) M (n + 1) = (d : EReal) := by
  refine ⟨∑ u ∈ Finset.range (n + 1), Real.exp (s u - M),
    Finset.sum_pos (fun u _ => Real.exp_pos _) ⟨0, Finset.mem_range.2 n.succ_pos⟩, ?_⟩
  unfold wSum
  simp only [one_mul]
  exact sum_coe _ _

/-- The quotient of numerator and denominator does not depend on the maximum, and multiplying with the reciprocal of
    the denominator is dividing by it. -/
theorem quotient_eq (s : ℕ → ℝ) (a : ℕ → EReal) (M M' : ℝ) (n : ℕ) :
    wSum s a M (n + 1) * Ideal.div 1 (wSum s (fun _ => 1) M (n + 1))
      = Ideal.div (wSum s a M' (n + 1)) (wSum s (fun _ => 1) M' (n + 1)) := by
  obtain ⟨d, hd, e⟩ := wSum_one s M n
  have e' := wSum_shift s (fun _ => 1) M M' (n + 1)
  rw [← e', ← wSum_shift s a M M' (n + 1), e, ← EReal.coe_mul]
  have hc := Real.exp_pos (M - M')
  rw [Ideal.div_coe hd.ne', Ideal.div_coe (mul_pos hd hc).ne', one_mul, mul_assoc, ← EReal.coe_mul]
  congr 2
  field_simp

/-- The pattern of minus infinity. -/
theorem ofBits_neg_inf : Ideal.ofBits .f32 0xFF800000#32 = ⊥ := by simp [Ideal.ofBits, Ideal.ieee]

/-- The value the running maximum starts from is a real. -/
theorem ofBits_start : ∃ r : ℝ, Ideal.ofBits .f32 0xF149F2CA#32 = (r : EReal) := by
  refine ⟨-(13234890 * 2 ^ 76), ?_⟩
  simp [Ideal.ofBits, Ideal.ieee, -EReal.coe_mul, -EReal.coe_neg]

/-- A hyperbolic tangent is always a real. -/
theorem tanh_real (x : EReal) : ∃ r : ℝ, Ideal.tanh x = (r : EReal) := by
  induction x with
  | bot => exact ⟨-1, by simp⟩
  | top => exact ⟨1, by simp⟩
  | coe x => exact ⟨Real.tanh x, rfl⟩

end Cert.Softmax

end
-- ==== Proof.Prefix.lean ====
module

public import proofs.«01_k».proof.Proof.Softmax

/-!
# The prefix averages

What both programs compute, written once: a score for every row of every batch, and at every row the average of the rows
up to it, weighted with the exponentials of their scores.
-/

@[expose] public section

noncomputable section

namespace Cert.Prefix

open Idealize.ShloMosaic Cert.Softmax

variable (X : Fin 8 → Fin 4096 → Fin 1024 → EReal) (W : Fin 1024 → Fin 1024 → EReal) (B Q : Fin 1024 → EReal)

/-- One hidden unit of a row. -/
def unit (b : Fin 8) (u : Fin 4096) (e : Fin 1024) : EReal := Ideal.tanh ((∑ k : Fin 1024, X b u k * W e k) + B e)

/-- The score of a row. -/
def score (b : Fin 8) (u : Fin 4096) : EReal := ∑ e : Fin 1024, unit X W B b u e * Q e

/-- The score of a row as a real, by position; beyond the last row it is zero. -/
def scoreN (b : Fin 8) (u : ℕ) : ℝ := if h : u < 4096 then (score X W B Q b ⟨u, h⟩).toReal else 0

/-- One column of the values, by position; beyond the last row it is zero. -/
def valN (b : Fin 8) (d : Fin 1024) (u : ℕ) : EReal := if h : u < 4096 then X b ⟨u, h⟩ d else 0

/-- The average of the rows up to `t`. -/
def result (b : Fin 8) (t : ℕ) (d : Fin 1024) : EReal :=
  Ideal.div (wSum (scoreN X W B Q b) (valN X b d) 0 (t + 1)) (wSum (scoreN X W B Q b) (fun _ => 1) 0 (t + 1))

/-- With finite weights every score is a real. -/
theorem score_coe (hQ : ∀ e, ∃ r : ℝ, Q e = (r : EReal)) (b : Fin 8) (u : Fin 4096) :
    score X W B Q b u = ((scoreN X W B Q b u.val : ℝ) : EReal) := by
  have h : ∃ r : ℝ, score X W B Q b u = (r : EReal) := by
    choose q hq using hQ
    choose g hg using fun e => tanh_real ((∑ k : Fin 1024, X b u k * W e k) + B e)
    refine ⟨∑ e : Fin 1024, g e * q e, ?_⟩
    unfold score unit
    rw [← sum_coe]
    exact Finset.sum_congr rfl fun e _ => by rw [hg, hq, EReal.coe_mul]
  obtain ⟨r, hr⟩ := h
  unfold scoreN
  rw [dif_pos u.isLt, hr, EReal.toReal_coe]

/-- A column of the values at a row. -/
theorem valN_at (b : Fin 8) (d : Fin 1024) (u : Fin 4096) : valN X b d u.val = X b u d := by
  unfold valN
  rw [dif_pos u.isLt]

/-- The score of a row, its hidden units taken in eight groups of lanes, the lanes outermost. -/
theorem score_lanes (b : Fin 8) (u : Fin 4096) :
    (∑ l : Fin 128, ∑ j : Fin 8, unit X W B b u ⟨j.val * 128 + l.val, by omega⟩ * Q ⟨j.val * 128 + l.val, by omega⟩)
      = score X W B Q b u := by
  unfold score
  rw [Finset.sum_comm]
  exact (Fin.sum_univ_tiles 8 128 rfl fun e : Fin 1024 => unit X W B b u e * Q e).symm

end Cert.Prefix

end
-- ==== Proof.Cumsum.lean ====
module

public import Idealize.ShloMosaic.Lib.Pointwise

/-!
# Running sums

A sum over a window that ends at an entry and reaches back to the start of its axis is the sum of the entries up to it: once
for the rows of a matrix, once for the middle axis of a cube.
-/

@[expose] public section

noncomputable section

namespace Cert.Cumsum

open Idealize.ShloMosaic

/-- Adding a list of terms one by one from the left is adding their sum. -/
theorem foldl_add {ι : Type*} (f : ι → EReal) (L : List ι) (z : EReal) :
    L.foldl (fun r n => r + f n) z = z + (L.map f).sum := by
  induction L generalizing z with
  | nil => simp
  | cons a L ih => rw [List.foldl_cons, ih, List.map_cons, List.sum_cons, add_assoc]

/-- The terms of a window that ends at `j`, those before the start counted as zero, are the terms up to `j`. -/
theorem sum_window (f : ℕ → EReal) (k j : ℕ) (hj : j ≤ k) :
    (∑ n ∈ Finset.range (k + 1), if k ≤ j + n then f (j + n - k) else 0) = ∑ u ∈ Finset.range (j + 1), f u := by
  rw [show k + 1 = (k - j) + (j + 1) by omega, Finset.sum_range_add, Finset.sum_eq_zero, zero_add]
  · refine Finset.sum_congr rfl fun u _ => ?_
    rw [if_pos (by omega), show j + (k - j + u) - k = u by omega]
  · intro n hn
    rw [if_neg (by have := Finset.mem_range.1 hn; omega)]

/-- A sum over the positions of a window with as many elements as `N`, each term a function of the position's number. -/
theorem sum_positions {M N : ℕ} (h : M = N) (f : ℕ → EReal) :
    ((List.finRange M).map fun n => f n.val).sum = ∑ n ∈ Finset.range N, f n := by
  subst h
  rw [← Fin.sum_univ_eq_sum_range, Fin.sum_univ_def]

/-- A row of `N` has `N` elements. -/
theorem numel_row (N : ℕ) : (⟨2, ![1, N]⟩ : Shape).numel = N :=
  (Fin.prod_univ_two _).trans (Nat.one_mul N)

/-- Position `n` of a row is its index `(0, n)`. -/
theorem symm_row {N : ℕ} (n : Fin (⟨2, ![1, N]⟩ : Shape).numel) :
    (⟨2, ![1, N]⟩ : Shape).rowMajor.symm n = ix2 (0 : Fin 1) (n.cast (numel_row N)) :=
  ((⟨2, ![1, N]⟩ : Shape).rowMajor.symm_apply_eq).2 (Fin.ext (by
    rw [Shape.rowMajor_val_two]
    show n.val = 0 * N + n.val
    omega))

/-- The running sums along the rows of a matrix. -/
theorem rows_at {R k N : ℕ} (hN : k + 1 = N) (x : (⟨2, ![R, N]⟩ : Shape).Idx → EReal) (f : ℕ → EReal) (b : Fin R)
    (hx : ∀ u : Fin N, x (ix2 b u) = f u.val) (init : EReal) (hi : init = 0)
    (h : (⟨2, ![R, N]⟩ : Shape).ReduceWindows (![1, N] : Fin 2 → Nat) ![1, 1] ![0, k] ![0, 0] ⟨2, ![R, N]⟩) (j : Fin N) :
    Ideal.hostReduceWindowAdd ![1, N] ![1, 1] ![0, k] ![0, 0] h x init (ix2 b j) = ∑ u ∈ Finset.range (j.val + 1), f u := by
  subst hi hN
  have hj := j.isLt
  unfold Ideal.hostReduceWindowAdd Host.reduceWindow
  refine (foldl_add _ _ _).trans ?_
  rw [zero_add, ← sum_window f k j.val (by omega), ← sum_positions (numel_row (k + 1)) fun n => if k ≤ j.val + n then f (j.val + n - k) else 0]
  refine congrArg List.sum (List.map_congr_left fun n _ => ?_)
  have hn : n.val < k + 1 := (n.cast (numel_row _)).isLt
  have e := symm_row n
  have w0 : ((⟨2, ![1, k + 1]⟩ : Shape).rowMajor.symm n 0).val = 0 := congrArg (fun i => (i 0).val) e
  have w1 : ((⟨2, ![1, k + 1]⟩ : Shape).rowMajor.symm n 1).val = n.val := congrArg (fun i => (i 1).val) e
  dsimp only
  by_cases hk : k ≤ j.val + n.val
  · rw [if_pos hk, dif_pos]
    · refine (congrArg x (funext fun a => Fin.ext ?_)).trans (hx ⟨j.val + n.val - k, by omega⟩)
      match a with
      | ⟨0, _⟩ => show b.val * 1 + ((⟨2, ![1, k + 1]⟩ : Shape).rowMajor.symm n 0).val - 0 = b.val; rw [w0]; omega
      | ⟨1, _⟩ =>
        show j.val * 1 + ((⟨2, ![1, k + 1]⟩ : Shape).rowMajor.symm n 1).val - k = j.val + n.val - k
        rw [w1, Nat.mul_one]
    · intro a
      match a with
      | ⟨0, _⟩ =>
        show 0 ≤ b.val * 1 + ((⟨2, ![1, k + 1]⟩ : Shape).rowMajor.symm n 0).val
          ∧ b.val * 1 + ((⟨2, ![1, k + 1]⟩ : Shape).rowMajor.symm n 0).val - 0 < R
        rw [w0]; have := b.isLt; omega
      | ⟨1, _⟩ =>
        show k ≤ j.val * 1 + ((⟨2, ![1, k + 1]⟩ : Shape).rowMajor.symm n 1).val
          ∧ j.val * 1 + ((⟨2, ![1, k + 1]⟩ : Shape).rowMajor.symm n 1).val - k < k + 1
        rw [w1]; omega
  · rw [if_neg hk, dif_neg]
    intro hin
    have h1 := (hin ⟨1, by decide⟩).1
    change k ≤ j.val * 1 + ((⟨2, ![1, k + 1]⟩ : Shape).rowMajor.symm n 1).val at h1
    rw [w1] at h1
    omega

/-- A column of `N` in a cube has `N` elements. -/
theorem numel_mid (N : ℕ) : (⟨3, ![1, N, 1]⟩ : Shape).numel = N :=
  (Fin.prod_univ_three _).trans (by show 1 * N * 1 = N; omega)

/-- Position `n` of a column in a cube is its index `(0, n, 0)`. -/
theorem symm_mid {N : ℕ} (n : Fin (⟨3, ![1, N, 1]⟩ : Shape).numel) :
    (⟨3, ![1, N, 1]⟩ : Shape).rowMajor.symm n = ix3 (0 : Fin 1) (n.cast (numel_mid N)) (0 : Fin 1) :=
  ((⟨3, ![1, N, 1]⟩ : Shape).rowMajor.symm_apply_eq).2 (Fin.ext (by
    rw [Shape.rowMajor_val_three]
    show n.val = (0 * N + n.val) * 1 + 0
    omega))

/-- The running sums along the middle axis of a cube. -/
theorem mid_at {R k N D : ℕ} (hN : k + 1 = N) (x : (⟨3, ![R, N, D]⟩ : Shape).Idx → EReal) (f : ℕ → EReal) (b : Fin R) (d : Fin D)
    (hx : ∀ u : Fin N, x (ix3 b u d) = f u.val) (init : EReal) (hi : init = 0)
    (h : (⟨3, ![R, N, D]⟩ : Shape).ReduceWindows (![1, N, 1] : Fin 3 → Nat) ![1, 1, 1] ![0, k, 0] ![0, 0, 0] ⟨3, ![R, N, D]⟩)
    (j : Fin N) :
    Ideal.hostReduceWindowAdd ![1, N, 1] ![1, 1, 1] ![0, k, 0] ![0, 0, 0] h x init (ix3 b j d)
      = ∑ u ∈ Finset.range (j.val + 1), f u := by
  subst hi hN
  have hj := j.isLt
  unfold Ideal.hostReduceWindowAdd Host.reduceWindow
  refine (foldl_add _ _ _).trans ?_
  rw [zero_add, ← sum_window f k j.val (by omega), ← sum_positions (numel_mid (k + 1)) fun n => if k ≤ j.val + n then f (j.val + n - k) else 0]
  refine congrArg List.sum (List.map_congr_left fun n _ => ?_)
  have hn : n.val < k + 1 := (n.cast (numel_mid _)).isLt
  have e := symm_mid n
  have w0 : ((⟨3, ![1, k + 1, 1]⟩ : Shape).rowMajor.symm n 0).val = 0 := congrArg (fun i => (i 0).val) e
  have w1 : ((⟨3, ![1, k + 1, 1]⟩ : Shape).rowMajor.symm n 1).val = n.val := congrArg (fun i => (i 1).val) e
  have w2 : ((⟨3, ![1, k + 1, 1]⟩ : Shape).rowMajor.symm n 2).val = 0 := congrArg (fun i => (i 2).val) e
  dsimp only
  by_cases hk : k ≤ j.val + n.val
  · rw [if_pos hk, dif_pos]
    · refine (congrArg x (funext fun a => Fin.ext ?_)).trans (hx ⟨j.val + n.val - k, by omega⟩)
      match a with
      | ⟨0, _⟩ => show b.val * 1 + ((⟨3, ![1, k + 1, 1]⟩ : Shape).rowMajor.symm n 0).val - 0 = b.val; rw [w0]; omega
      | ⟨1, _⟩ =>
        show j.val * 1 + ((⟨3, ![1, k + 1, 1]⟩ : Shape).rowMajor.symm n 1).val - k = j.val + n.val - k
        rw [w1, Nat.mul_one]
      | ⟨2, _⟩ => show d.val * 1 + ((⟨3, ![1, k + 1, 1]⟩ : Shape).rowMajor.symm n 2).val - 0 = d.val; rw [w2]; omega
    · intro a
      match a with
      | ⟨0, _⟩ =>
        show 0 ≤ b.val * 1 + ((⟨3, ![1, k + 1, 1]⟩ : Shape).rowMajor.symm n 0).val
          ∧ b.val * 1 + ((⟨3, ![1, k + 1, 1]⟩ : Shape).rowMajor.symm n 0).val - 0 < R
        rw [w0]; have := b.isLt; omega
      | ⟨1, _⟩ =>
        show k ≤ j.val * 1 + ((⟨3, ![1, k + 1, 1]⟩ : Shape).rowMajor.symm n 1).val
          ∧ j.val * 1 + ((⟨3, ![1, k + 1, 1]⟩ : Shape).rowMajor.symm n 1).val - k < k + 1
        rw [w1]; omega
      | ⟨2, _⟩ =>
        show 0 ≤ d.val * 1 + ((⟨3, ![1, k + 1, 1]⟩ : Shape).rowMajor.symm n 2).val
          ∧ d.val * 1 + ((⟨3, ![1, k + 1, 1]⟩ : Shape).rowMajor.symm n 2).val - 0 < D
        rw [w2]; have := d.isLt; omega
  · rw [if_neg hk, dif_neg]
    intro hin
    have h1 := (hin ⟨1, by decide⟩).1
    change k ≤ j.val * 1 + ((⟨3, ![1, k + 1, 1]⟩ : Shape).rowMajor.symm n 1).val at h1
    rw [w1] at h1
    omega

end Cert.Cumsum

end
-- ==== Proof.ReferenceValue.lean ====
module

public import proofs.«01_k».proof.Proof.Prefix
public import proofs.«01_k».proof.Proof.Cumsum
public import proofs.«01_k».proof.Proof.Gen.ReferenceIdeal.Run
public import Idealize.ShloMosaic.Lib.IdealHost

/-!
# What the reference computes

The reference's operations read at an entry: the scores, their maximum over a batch, the weights, and the quotient of the two
running sums, which is the prefix average.
-/

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.Softmax Cert.Prefix

variable (X : FVec Ideal S8x4096x1024 .f32) (W : FVec Ideal S1024x1024 .f32) (B Q : FVec Ideal S1024 .f32)

/-- The scores. -/
def scores : FVec Ideal S8x4096 .f32 :=
  Host.dotGeneral dot_S8x4096x1024_S1024_S8x4096_2_0_01_n_n_n none (Host.tanh (addf (Host.dotGeneral dot_S8x4096x1024_S1024x1024_S8x4096x1024_2_1_01_0_n_n none X W) (broadcastInDim S8x4096x1024 ![0, 1, 2] bcast_S1x1x1024_S8x4096x1024_0_1_2 (broadcastInDim S1x1x1024 ![2] bcast_S1024_S1x1x1024_2 B)))) Q

/-- The largest score of every batch. -/
def tops (S : FVec Ideal S8x4096 .f32) : FVec Ideal S8 .f32 :=
  Host.reduce FloatOps.maximumf S (constant S_ .f32 0xFF800000#32) reducesTo_S8x4096_S8_d1 h_S_

/-- The weights. -/
def weights (S : FVec Ideal S8x4096 .f32) (T : FVec Ideal S8 .f32) : FVec Ideal S8x4096 .f32 :=
  Host.exp (subf S (broadcastInDim S8x4096 ![0, 1] bcast_S8x1_S8x4096_0_1 (broadcastInDim S8x1 ![0] bcast_S8_S8x1_0 T)))

/-- The running sums of the weighted values. -/
def sums (E : FVec Ideal S8x4096 .f32) : FVec Ideal S8x4096x1024 .f32 :=
  Host.reduceWindowAdd ![1, 4096, 1] ![1, 1, 1] ![0, 4095, 0] ![0, 0, 0] (mulf (broadcastInDim S8x4096x1024 ![0, 1, 2] bcast_S8x4096x1_S8x4096x1024_0_1_2 (broadcastInDim S8x4096x1 ![0, 1] bcast_S8x4096_S8x4096x1_0_1 E)) X) (broadcastInDim S_ ![] bcast_S_S_ (constant S_ .f32 0x00000000#32)) reduceWindows_S8x4096x1024_S8x4096x1024_w1s1p0_0_w4096s1p4095_0_w1s1p0_0 h_S_

/-- The running sums of the weights. -/
def dens (E : FVec Ideal S8x4096 .f32) : FVec Ideal S8x4096 .f32 :=
  Host.reduceWindowAdd ![1, 4096] ![1, 1] ![0, 4095] ![0, 0] E (broadcastInDim S_ ![] bcast_S_S_ (constant S_ .f32 0x00000000#32)) reduceWindows_S8x4096_S8x4096_w1s1p0_0_w4096s1p4095_0 h_S_

/-- The quotient of the two running sums. -/
def quot (N : FVec Ideal S8x4096x1024 .f32) (D : FVec Ideal S8x4096 .f32) : FVec Ideal S8x4096x1024 .f32 :=
  Host.divf N (broadcastInDim S8x4096x1024 ![0, 1, 2] bcast_S8x4096x1_S8x4096x1024_0_1_2 (broadcastInDim S8x4096x1 ![0, 1] bcast_S8x4096_S8x4096x1_0_1 D))

/-- The scores at an entry. -/
theorem scores_at (b : Fin 8) (u : Fin 4096) :
    scores X W B Q (ix2 b u) = score (fun b u d => X (ix3 b u d)) (fun e k => W (ix2 e k)) (fun e => B (ix1 e)) (fun e => Q (ix1 e)) b u := by
  unfold scores score Cert.Prefix.unit
  pointwise

/-- The largest score of a batch. -/
theorem tops_at (S : FVec Ideal S8x4096 .f32) (b : Fin 8) :
    tops S (ix1 b) = Finset.univ.fold max ⊥ fun u : Fin 4096 => S (ix2 b u) := by
  unfold tops
  pointwise
  rw [ofBits_neg_inf]

/-- The weight of an entry. -/
theorem weights_at (S : FVec Ideal S8x4096 .f32) (T : FVec Ideal S8 .f32) (b : Fin 8) (u : Fin 4096) :
    weights S T (ix2 b u) = Ideal.exp (S (ix2 b u) - T (ix1 b)) := by
  unfold weights
  pointwise

/-- The running sums of the weighted values at an entry. -/
theorem sums_at (E : FVec Ideal S8x4096 .f32) (f : ℕ → EReal) (b : Fin 8) (d : Fin 1024)
    (hf : ∀ u : Fin 4096, X (ix3 b u d) * E (ix2 b u) = f u.val) (t : Fin 4096) :
    sums X E (ix3 b t d) = ∑ u ∈ Finset.range (t.val + 1), f u := by
  unfold sums Host.reduceWindowAdd
  rw [Ideal.hostReduceWindowAdd_def]
  refine Cert.Cumsum.mid_at (k := 4095) (by omega) _ f b d (fun u => ?_) _ ?_ _ t
  · rw [← hf]; pointwise; exact mul_comm _ _
  · pointwise

/-- The running sums of the weights at an entry. -/
theorem dens_at (E : FVec Ideal S8x4096 .f32) (f : ℕ → EReal) (b : Fin 8) (hf : ∀ u : Fin 4096, E (ix2 b u) = f u.val) (t : Fin 4096) :
    dens E (ix2 b t) = ∑ u ∈ Finset.range (t.val + 1), f u := by
  unfold dens Host.reduceWindowAdd
  rw [Ideal.hostReduceWindowAdd_def]
  refine Cert.Cumsum.rows_at (k := 4095) (by omega) _ f b hf _ ?_ _ t
  pointwise

/-- The quotient at an entry. -/
theorem quot_at (N : FVec Ideal S8x4096x1024 .f32) (D : FVec Ideal S8x4096 .f32) (b : Fin 8) (t : Fin 4096) (d : Fin 1024) :
    quot N D (ix3 b t d) = Ideal.div (N (ix3 b t d)) (D (ix2 b t)) := by
  unfold quot
  pointwise

/-- With finite weights of the hidden units the reference's result is the prefix averages. -/
theorem result_at (hQ : ∀ e, ∃ r : ℝ, Q (ix1 e) = (r : EReal)) (b : Fin 8) (t : Fin 4096) (d : Fin 1024) :
    quot (sums X (weights (scores X W B Q) (tops (scores X W B Q)))) (dens (weights (scores X W B Q) (tops (scores X W B Q)))) (ix3 b t d)
      = result (fun b u d => X (ix3 b u d)) (fun e k => W (ix2 e k)) (fun e => B (ix1 e)) (fun e => Q (ix1 e)) b t.val d := by
  have hs : ∀ u, scores X W B Q (ix2 b u) = _ := fun u => (scores_at X W B Q b u).trans (score_coe _ _ _ _ hQ b u)
  obtain ⟨M, hM⟩ := fold_coe (n := 4095) fun u : Fin 4096 => scoreN (fun b u d => X (ix3 b u d)) (fun e k => W (ix2 e k)) (fun e => B (ix1 e)) (fun e => Q (ix1 e)) b u.val
  have hT : tops (scores X W B Q) (ix1 b) = (M : EReal) := by
    rw [tops_at]; simp only [hs]; exact hM
  have hE : ∀ u, weights (scores X W B Q) (tops (scores X W B Q)) (ix2 b u) = _ := fun u => by
    rw [weights_at, hs, hT, ← EReal.coe_sub, Ideal.exp_coe]
  generalize weights (scores X W B Q) (tops (scores X W B Q)) = E at hE ⊢
  rw [quot_at, sums_at X E (fun u => valN (fun b u d => X (ix3 b u d)) b d u
      * ((Real.exp (scoreN (fun b u d => X (ix3 b u d)) (fun e k => W (ix2 e k)) (fun e => B (ix1 e)) (fun e => Q (ix1 e)) b u - M) : ℝ) : EReal)) b d
      (fun u => by rw [hE, valN_at]) t,
    dens_at E (fun u => 1 * ((Real.exp (scoreN (fun b u d => X (ix3 b u d)) (fun e k => W (ix2 e k)) (fun e => B (ix1 e)) (fun e => Q (ix1 e)) b u - M) : ℝ) : EReal)) b
      (fun u => by rw [hE, one_mul]) t]
  exact (quotient_eq _ _ M M t.val).symm.trans (quotient_eq _ _ M 0 t.val)

/-- The run: every execution terminates with the quotient of the running sums in the result array and the arguments as
    launched. -/
theorem run (m : (ℓ : Loc nD τ sig) → Buf (Elt Ideal) ℓ) (ρ : Dev nD → PrngReg)
    (X : Dev nD → FVec Ideal S8x4096x1024 .f32) (W : Dev nD → FVec Ideal S1024x1024 .f32) (B Q : Dev nD → FVec Ideal S1024 .f32)
    (hX : ∀ c : Dev nD, m ((c.tc : Thread nD τ).loc main_arg0) = X c) (hW : ∀ c : Dev nD, m ((c.tc : Thread nD τ).loc main_arg1) = W c)
    (hB : ∀ c : Dev nD, m ((c.tc : Thread nD τ).loc main_arg2) = B c) (hQ : ∀ c : Dev nD, m ((c.tc : Thread nD τ).loc main_arg3) = Q c) :
    θ_run defs (onTc (τ := τ) (main (F := Ideal))) ⟨m, fun _ => 0, ρ⟩ (fun r => ∀ c : Dev nD,
      r.2.mem ((c.tc : Thread nD τ).loc main_v18) = quot (sums (X c) (weights (scores (X c) (W c) (B c) (Q c)) (tops (scores (X c) (W c) (B c) (Q c)))))
          (dens (weights (scores (X c) (W c) (B c) (Q c)) (tops (scores (X c) (W c) (B c) (Q c)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Cert.ReferenceIdeal.Value.run (F := Ideal) m ρ)
  rw [hX, hW, hB, hQ]
  rfl

end Cert.ReferenceIdeal.Own

end
-- ==== Proof.KernelIdealOwn.RunA.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

/-!
# One run of the kernel body at the first block of a batch pair

The running maximum, denominator and numerator are reset here before they are used.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch condition, from the grid coordinates: the second coordinate is 1. -/
abbrev first (i : grid0.Coords) : Prop := (Scalar.cmpi .ne (Scalar.extui (Scalar.cmpi .eq (BitVec.ofNat 32 (i 1).val) 1#32)) 0#32) = 1#1

/-- It holds at the points whose position is 1 modulo 9. -/
theorem first_iff : ∀ t : Fin cfg0.N, first (grid0.coords t) ↔ t.val % 9 = 1 :=
  (fun t => by
    have ht : t.val < 36 := Nat.lt_of_lt_of_eq t.isLt N_0
    have e1 : (grid0.coords t 1).val = t.val / 1 % 9 := Pipeline.Grid.coords_val t 1 (by decide) rfl
    simp only [first, e1]
    word_cmp
   : ∀ t : Fin grid0.N, first (grid0.coords t) ↔ t.val % 9 = 1)

set_option maxHeartbeats 8000000 in
/-- The body with the reset branch taken: the list of pieces it stores into the output buffer and into each of the five scratch
    buffers (last store first), for any contents `s0` … `s4` the scratch held, with the proof that the body runs
    and leaves exactly these pieces written and the inputs as they were. -/
def runA (c : Dev nD) (i : grid0.Coords) (arg2 : Memref sig .tc .vmem S2x512x1024 .f32) (harg2 : arg2.IsWhole) (arg3 : Memref sig .tc .vmem S1024x1024 .bf16) (harg3 : arg3.IsWhole) (arg4 : Memref sig .tc .vmem S64x64 .bf16) (harg4 : arg4.IsWhole) (arg5 : Memref sig .tc .vmem S1x1024 .f32) (harg5 : arg5.IsWhole) (arg6 : Memref sig .tc .vmem S8x128 .f32) (harg6 : arg6.IsWhole) (arg7 : Memref sig .tc .vmem S128x128 .bf16) (harg7 : arg7.IsWhole) (arg8 : Memref sig .tc .vmem S2x512x1024 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x1024 .f32) (harg11 : arg11.IsWhole) (arg12 : Memref sig .tc .vmem S2x512x128 .f32) (harg12 : arg12.IsWhole) (arg13 : Memref sig .tc .vmem S2x512x1024 .bf16) (harg13 : arg13.IsWhole) (hc : first i)
    (x0 : Vec F S2x512x1024 .f32) (x1 : Vec F S1024x1024 .bf16) (x2 : Vec F S64x64 .bf16) (x3 : Vec F S1x1024 .f32) (x4 : Vec F S8x128 .f32) (x5 : Vec F S128x128 .bf16) (s0 : Vec F S2x128 .f32) (s1 : Vec F S2x128 .f32) (s2 : Vec F S2x1024 .f32) (s3 : Vec F S2x512x128 .f32) (s4 : Vec F S2x512x1024 .bf16) :
    Σ' (L : List (View.Piece (Elt F) S2x512x1024 .f32)), Σ' (L0 : List (View.Piece (Elt F) S2x128 .f32)), Σ' (L1 : List (View.Piece (Elt F) S2x128 .f32)), Σ' (L2 : List (View.Piece (Elt F) S2x1024 .f32)), Σ' (L3 : List (View.Piece (Elt F) S2x512x128 .f32)), { L4 : List (View.Piece (Elt F) S2x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3) ∗ (∃ f, arg13.view.loc (c : Thread nD τ) ↦[arg13.view.set]{fullShare} arg13.view.writes (Elt F) f L4)) -∗ K ⟨⟩))
          ⊢ wp frame (wpE (defs₀ (F := F)) Variants.none c none) E (cc0_step_attention_fused i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_step_attention_fused_eq_skeleton]; unfold cc0_step_attention_fused_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d, %f, -, HO⟩, ⟨%g0, %hg0, HS0⟩, ⟨%g1, %hg1, HS1⟩, ⟨%g2, %hg2, HS2⟩, ⟨%g3, %hg3, HS3⟩, ⟨%g4, %hg4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hg0; obtain rfl := harg10.eq_unread hg1; obtain rfl := harg11.eq_unread hg2; obtain rfl := harg12.eq_unread hg3; obtain rfl := harg13.eq_unread hg4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    isplitl [HS0]; · iexists _; iexact HS0
    isplitl [HS1]; · iexists _; iexact HS1
    isplitl [HS2]; · iexists _; iexact HS2
    isplitl [HS3]; · iexists _; iexact HS3
    iexists _; iexact HS4

end Cert.KernelIdeal.Own

end
-- ==== Proof.KernelIdealOwn.RunB.lean ====
module

public import proofs.«01_k».proof.Proof.KernelIdealOwn.RunA

/-!
# One run of the kernel body at any other grid point

The running maximum, denominator and numerator are used as the point before left them.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- The body with the reset branch passed over: the list of pieces it stores into the output buffer and into each of the five scratch
    buffers (last store first), for any contents `s0` … `s4` the scratch held, with the proof that the body runs
    and leaves exactly these pieces written and the inputs as they were. -/
def runB (c : Dev nD) (i : grid0.Coords) (arg2 : Memref sig .tc .vmem S2x512x1024 .f32) (harg2 : arg2.IsWhole) (arg3 : Memref sig .tc .vmem S1024x1024 .bf16) (harg3 : arg3.IsWhole) (arg4 : Memref sig .tc .vmem S64x64 .bf16) (harg4 : arg4.IsWhole) (arg5 : Memref sig .tc .vmem S1x1024 .f32) (harg5 : arg5.IsWhole) (arg6 : Memref sig .tc .vmem S8x128 .f32) (harg6 : arg6.IsWhole) (arg7 : Memref sig .tc .vmem S128x128 .bf16) (harg7 : arg7.IsWhole) (arg8 : Memref sig .tc .vmem S2x512x1024 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S2x1024 .f32) (harg11 : arg11.IsWhole) (arg12 : Memref sig .tc .vmem S2x512x128 .f32) (harg12 : arg12.IsWhole) (arg13 : Memref sig .tc .vmem S2x512x1024 .bf16) (harg13 : arg13.IsWhole) (hc : ¬first i)
    (x0 : Vec F S2x512x1024 .f32) (x1 : Vec F S1024x1024 .bf16) (x2 : Vec F S64x64 .bf16) (x3 : Vec F S1x1024 .f32) (x4 : Vec F S8x128 .f32) (x5 : Vec F S128x128 .bf16) (s0 : Vec F S2x128 .f32) (s1 : Vec F S2x128 .f32) (s2 : Vec F S2x1024 .f32) (s3 : Vec F S2x512x128 .f32) (s4 : Vec F S2x512x1024 .bf16) :
    Σ' (L : List (View.Piece (Elt F) S2x512x1024 .f32)), Σ' (L0 : List (View.Piece (Elt F) S2x128 .f32)), Σ' (L1 : List (View.Piece (Elt F) S2x128 .f32)), Σ' (L2 : List (View.Piece (Elt F) S2x1024 .f32)), Σ' (L3 : List (View.Piece (Elt F) S2x512x128 .f32)), { L4 : List (View.Piece (Elt F) S2x512x1024 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare s0 ∗ owns (c : Thread nD τ) arg10 fullShare s1 ∗ owns (c : Thread nD τ) arg11 fullShare s2 ∗ owns (c : Thread nD τ) arg12 fullShare s3 ∗ owns (c : Thread nD τ) arg13 fullShare s4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L) ∗ (∃ f, arg9.view.loc (c : Thread nD τ) ↦[arg9.view.set]{fullShare} arg9.view.writes (Elt F) f L0) ∗ (∃ f, arg10.view.loc (c : Thread nD τ) ↦[arg10.view.set]{fullShare} arg10.view.writes (Elt F) f L1) ∗ (∃ f, arg11.view.loc (c : Thread nD τ) ↦[arg11.view.set]{fullShare} arg11.view.writes (Elt F) f L2) ∗ (∃ f, arg12.view.loc (c : Thread nD τ) ↦[arg12.view.set]{fullShare} arg12.view.writes (Elt F) f L3) ∗ (∃ f, arg13.view.loc (c : Thread nD τ) ↦[arg13.view.set]{fullShare} arg13.view.writes (Elt F) f L4)) -∗ K ⟨⟩))
          ⊢ wp frame (wpE (defs₀ (F := F)) Variants.none c none) E (cc0_step_attention_fused i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_step_attention_fused_eq_skeleton]; unfold cc0_step_attention_fused_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d, %f, -, HO⟩, ⟨%g0, %hg0, HS0⟩, ⟨%g1, %hg1, HS1⟩, ⟨%g2, %hg2, HS2⟩, ⟨%g3, %hg3, HS3⟩, ⟨%g4, %hg4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hg0; obtain rfl := harg10.eq_unread hg1; obtain rfl := harg11.eq_unread hg2; obtain rfl := harg12.eq_unread hg3; obtain rfl := harg13.eq_unread hg4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]; · iexists _; iexact HO
    isplitl [HS0]; · iexists _; iexact HS0
    isplitl [HS1]; · iexists _; iexact HS1
    isplitl [HS2]; · iexists _; iexact HS2
    isplitl [HS3]; · iexists _; iexact HS3
    iexists _; iexact HS4

end Cert.KernelIdeal.Own

end
-- ==== Proof.KernelIdealOwn.Step.lean ====
module

public import proofs.«01_k».proof.Proof.KernelIdealOwn.RunB

/-!
# One grid point as a function

What the body leaves in the output's staging buffer and in the scratch, as functions of the input blocks and of what the
scratch held, with the body's triple in these terms.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Pieces whose first `n` already cover a buffer cover it. -/
theorem cover_under {s : Shape} {e : EltTy} (L : List (View.Piece (Elt F) s e)) (n : ℕ)
    (h : ∀ y, ∃ pc ∈ L.take n, y ∈ pc.1.set) (y : s.Idx) : ∃ pc ∈ L, y ∈ pc.1.set :=
  let ⟨pc, hp, hy⟩ := h y
  ⟨pc, List.mem_of_mem_take hp, hy⟩

/-- What the five scratch buffers hold: the running maximum, denominator and numerator of the two batch rows, and the
    parked scores and values of the block read one point earlier. -/
structure Scr (F : FTy → Type) where
  m : Vec F S2x128 .f32
  den : Vec F S2x128 .f32
  num : Vec F S2x1024 .f32
  s : Vec F S2x512x128 .f32
  v : Vec F S2x512x1024 .bf16

/-- Window 0's staging buffer at point `t`, and that it is a whole buffer. -/
abbrev stg0 (t : Fin cfg0.N) : Memref sig .tc .vmem S2x512x1024 .f32 := win0_0.stage (cfg0.slots t 0)
abbrev whole0 (t : Fin cfg0.N) : (stg0 t).IsWhole := hstage0_0 ((cfg0.slots t 0).cast nbuf0_0)
/-- Window 1's staging buffer at point `t`, and that it is a whole buffer. -/
abbrev stg1 (t : Fin cfg0.N) : Memref sig .tc .vmem S1024x1024 .bf16 := win0_1.stage (cfg0.slots t 1)
abbrev whole1 (t : Fin cfg0.N) : (stg1 t).IsWhole := hstage0_1 ((cfg0.slots t 1).cast nbuf0_1)
/-- Window 2's staging buffer at point `t`, and that it is a whole buffer. -/
abbrev stg2 (t : Fin cfg0.N) : Memref sig .tc .vmem S64x64 .bf16 := win0_2.stage (cfg0.slots t 2)
abbrev whole2 (t : Fin cfg0.N) : (stg2 t).IsWhole := hstage0_2 ((cfg0.slots t 2).cast nbuf0_2)
/-- Window 3's staging buffer at point `t`, and that it is a whole buffer. -/
abbrev stg3 (t : Fin cfg0.N) : Memref sig .tc .vmem S1x1024 .f32 := win0_3.stage (cfg0.slots t 3)
abbrev whole3 (t : Fin cfg0.N) : (stg3 t).IsWhole := hstage0_3 ((cfg0.slots t 3).cast nbuf0_3)
/-- Window 4's staging buffer at point `t`, and that it is a whole buffer. -/
abbrev stg4 (t : Fin cfg0.N) : Memref sig .tc .vmem S8x128 .f32 := win0_4.stage (cfg0.slots t 4)
abbrev whole4 (t : Fin cfg0.N) : (stg4 t).IsWhole := hstage0_4 ((cfg0.slots t 4).cast nbuf0_4)
/-- Window 5's staging buffer at point `t`, and that it is a whole buffer. -/
abbrev stg5 (t : Fin cfg0.N) : Memref sig .tc .vmem S128x128 .bf16 := win0_5.stage (cfg0.slots t 5)
abbrev whole5 (t : Fin cfg0.N) : (stg5 t).IsWhole := hstage0_5 ((cfg0.slots t 5).cast nbuf0_5)
/-- Window 6's staging buffer at point `t`, and that it is a whole buffer. -/
abbrev stg6 (t : Fin cfg0.N) : Memref sig .tc .vmem S2x512x1024 .f32 := win0_6.stage (cfg0.slots t 6)
abbrev whole6 (t : Fin cfg0.N) : (stg6 t).IsWhole := hstage0_6 ((cfg0.slots t 6).cast nbuf0_6)
/-- Scratch buffer 0. -/
abbrev scr0 : Memref sig .tc .vmem S2x128 .f32 := Memref.whole cc0_scratch0
/-- Scratch buffer 1. -/
abbrev scr1 : Memref sig .tc .vmem S2x128 .f32 := Memref.whole cc0_scratch1
/-- Scratch buffer 2. -/
abbrev scr2 : Memref sig .tc .vmem S2x1024 .f32 := Memref.whole cc0_scratch2
/-- Scratch buffer 3. -/
abbrev scr3 : Memref sig .tc .vmem S2x512x128 .f32 := Memref.whole cc0_scratch3
/-- Scratch buffer 4. -/
abbrev scr4 : Memref sig .tc .vmem S2x512x1024 .bf16 := Memref.whole cc0_scratch4

/-- The invariant the launch hands over: every scratch buffer at some contents and the generator register at some state. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d)) ∗ (∃ r, prngReg c r)) := by
  unfold Pipeline.ΦA; rw [scopedRest0_eq]; simp only [scr0, scr1, scr2, scr3, scr4, owns_whole]; try rfl

/-- The six input blocks of a point. -/
structure Blk (F : FTy → Type) where
  x0 : Vec F S2x512x1024 .f32
  x1 : Vec F S1024x1024 .bf16
  x2 : Vec F S64x64 .bf16
  x3 : Vec F S1x1024 .f32
  x4 : Vec F S8x128 .f32
  x5 : Vec F S128x128 .bf16

variable (c : Dev nD) (t : Fin cfg0.N) (x : Blk F) (σ : Scr F)

/-- The pieces of point `t` in case A. -/
abbrev pcsA (h : first (grid0.coords t)) := runA c (grid0.coords t) (stg0 t) (whole0 t) (stg1 t) (whole1 t) (stg2 t) (whole2 t) (stg3 t) (whole3 t) (stg4 t) (whole4 t) (stg5 t) (whole5 t) (stg6 t) (whole6 t) scr0 (Memref.isWhole_whole _) scr1 (Memref.isWhole_whole _) scr2 (Memref.isWhole_whole _) scr3 (Memref.isWhole_whole _) scr4 (Memref.isWhole_whole _) h x.x0 x.x1 x.x2 x.x3 x.x4 x.x5 σ.m σ.den σ.num σ.s σ.v
/-- The pieces of point `t` in case B. -/
abbrev pcsB (h : ¬first (grid0.coords t)) := runB c (grid0.coords t) (stg0 t) (whole0 t) (stg1 t) (whole1 t) (stg2 t) (whole2 t) (stg3 t) (whole3 t) (stg4 t) (whole4 t) (stg5 t) (whole5 t) (stg6 t) (whole6 t) scr0 (Memref.isWhole_whole _) scr1 (Memref.isWhole_whole _) scr2 (Memref.isWhole_whole _) scr3 (Memref.isWhole_whole _) scr4 (Memref.isWhole_whole _) h x.x0 x.x1 x.x2 x.x3 x.x4 x.x5 σ.m σ.den σ.num σ.s σ.v
/-- Case A's pieces for `out` cover its buffer. -/
theorem coverA_out (h : first (grid0.coords t)) (y : S2x512x1024.Idx) : ∃ pc ∈ (pcsA c t x σ h).1, y ∈ pc.1.set :=
  View.cover_of_tiledL (pcsA c t x σ h).1 S1x512x128.size (by sl_kernel_rfl) y
/-- What case A leaves in `out`. -/
def outA (h : first (grid0.coords t)) : Vec F S2x512x1024 .f32 :=
  ((Memref.whole cc0_stg6_0 : Memref sig .tc .vmem S2x512x1024 .f32).view).read (Elt F) (((Memref.whole cc0_stg6_0 : Memref sig .tc .vmem S2x512x1024 .f32).view).writes (Elt F) ((Memref.whole cc0_stg6_0 : Memref sig .tc .vmem S2x512x1024 .f32).view).junk (pcsA c t x σ h).1)

/-- Case B's pieces for `out` cover its buffer. -/
theorem coverB_out (h : ¬first (grid0.coords t)) (y : S2x512x1024.Idx) : ∃ pc ∈ (pcsB c t x σ h).1, y ∈ pc.1.set :=
  View.cover_of_tiledL (pcsB c t x σ h).1 S1x512x128.size (by sl_kernel_rfl) y
/-- What case B leaves in `out`. -/
def outB (h : ¬first (grid0.coords t)) : Vec F S2x512x1024 .f32 :=
  ((Memref.whole cc0_stg6_0 : Memref sig .tc .vmem S2x512x1024 .f32).view).read (Elt F) (((Memref.whole cc0_stg6_0 : Memref sig .tc .vmem S2x512x1024 .f32).view).writes (Elt F) ((Memref.whole cc0_stg6_0 : Memref sig .tc .vmem S2x512x1024 .f32).view).junk (pcsB c t x σ h).1)

/-- Case A's pieces for `m` cover its buffer. -/
theorem coverA_m (h : first (grid0.coords t)) (y : S2x128.Idx) : ∃ pc ∈ (pcsA c t x σ h).2.1, y ∈ pc.1.set :=
  cover_under _ 2 (View.cover_of_tiledL ((pcsA c t x σ h).2.1.take 2) S1x128.size (by sl_kernel_rfl)) y
/-- What case A leaves in `m`. -/
def mA (h : first (grid0.coords t)) : Vec F S2x128 .f32 :=
  (scr0.view).read (Elt F) ((scr0.view).writes (Elt F) (scr0.view).junk (pcsA c t x σ h).2.1)

/-- Case B's pieces for `m` cover its buffer. -/
theorem coverB_m (h : ¬first (grid0.coords t)) (y : S2x128.Idx) : ∃ pc ∈ (pcsB c t x σ h).2.1, y ∈ pc.1.set :=
  View.cover_of_tiledL (pcsB c t x σ h).2.1 S1x128.size (by sl_kernel_rfl) y
/-- What case B leaves in `m`. -/
def mB (h : ¬first (grid0.coords t)) : Vec F S2x128 .f32 :=
  (scr0.view).read (Elt F) ((scr0.view).writes (Elt F) (scr0.view).junk (pcsB c t x σ h).2.1)

/-- Case A's pieces for `den` cover its buffer. -/
theorem coverA_den (h : first (grid0.coords t)) (y : S2x128.Idx) : ∃ pc ∈ (pcsA c t x σ h).2.2.1, y ∈ pc.1.set :=
  cover_under _ 2 (View.cover_of_tiledL ((pcsA c t x σ h).2.2.1.take 2) S1x128.size (by sl_kernel_rfl)) y
/-- What case A leaves in `den`. -/
def denA (h : first (grid0.coords t)) : Vec F S2x128 .f32 :=
  (scr1.view).read (Elt F) ((scr1.view).writes (Elt F) (scr1.view).junk (pcsA c t x σ h).2.2.1)

/-- Case B's pieces for `den` cover its buffer. -/
theorem coverB_den (h : ¬first (grid0.coords t)) (y : S2x128.Idx) : ∃ pc ∈ (pcsB c t x σ h).2.2.1, y ∈ pc.1.set :=
  View.cover_of_tiledL (pcsB c t x σ h).2.2.1 S1x128.size (by sl_kernel_rfl) y
/-- What case B leaves in `den`. -/
def denB (h : ¬first (grid0.coords t)) : Vec F S2x128 .f32 :=
  (scr1.view).read (Elt F) ((scr1.view).writes (Elt F) (scr1.view).junk (pcsB c t x σ h).2.2.1)

/-- Case A's pieces for `num` cover its buffer. -/
theorem coverA_num (h : first (grid0.coords t)) (y : S2x1024.Idx) : ∃ pc ∈ (pcsA c t x σ h).2.2.2.1, y ∈ pc.1.set :=
  cover_under _ 2 (View.cover_of_tiledL ((pcsA c t x σ h).2.2.2.1.take 2) S1x1024.size (by sl_kernel_rfl)) y
/-- What case A leaves in `num`. -/
def numA (h : first (grid0.coords t)) : Vec F S2x1024 .f32 :=
  (scr2.view).read (Elt F) ((scr2.view).writes (Elt F) (scr2.view).junk (pcsA c t x σ h).2.2.2.1)

/-- Case B's pieces for `num` cover its buffer. -/
theorem coverB_num (h : ¬first (grid0.coords t)) (y : S2x1024.Idx) : ∃ pc ∈ (pcsB c t x σ h).2.2.2.1, y ∈ pc.1.set :=
  View.cover_of_tiledL (pcsB c t x σ h).2.2.2.1 S1x1024.size (by sl_kernel_rfl) y
/-- What case B leaves in `num`. -/
def numB (h : ¬first (grid0.coords t)) : Vec F S2x1024 .f32 :=
  (scr2.view).read (Elt F) ((scr2.view).writes (Elt F) (scr2.view).junk (pcsB c t x σ h).2.2.2.1)

/-- Case A's pieces for `s` cover its buffer. -/
theorem coverA_s (h : first (grid0.coords t)) (y : S2x512x128.Idx) : ∃ pc ∈ (pcsA c t x σ h).2.2.2.2.1, y ∈ pc.1.set :=
  View.cover_of_tiledL (pcsA c t x σ h).2.2.2.2.1 S2x512x128.size (by sl_kernel_rfl) y
/-- What case A leaves in `s`. -/
def sA (h : first (grid0.coords t)) : Vec F S2x512x128 .f32 :=
  (scr3.view).read (Elt F) ((scr3.view).writes (Elt F) (scr3.view).junk (pcsA c t x σ h).2.2.2.2.1)

/-- Case B's pieces for `s` cover its buffer. -/
theorem coverB_s (h : ¬first (grid0.coords t)) (y : S2x512x128.Idx) : ∃ pc ∈ (pcsB c t x σ h).2.2.2.2.1, y ∈ pc.1.set :=
  View.cover_of_tiledL (pcsB c t x σ h).2.2.2.2.1 S2x512x128.size (by sl_kernel_rfl) y
/-- What case B leaves in `s`. -/
def sB (h : ¬first (grid0.coords t)) : Vec F S2x512x128 .f32 :=
  (scr3.view).read (Elt F) ((scr3.view).writes (Elt F) (scr3.view).junk (pcsB c t x σ h).2.2.2.2.1)

/-- Case A's pieces for `v` cover its buffer. -/
theorem coverA_v (h : first (grid0.coords t)) (y : S2x512x1024.Idx) : ∃ pc ∈ (pcsA c t x σ h).2.2.2.2.2.1, y ∈ pc.1.set :=
  View.cover_of_tiledL (pcsA c t x σ h).2.2.2.2.2.1 S2x512x1024.size (by sl_kernel_rfl) y
/-- What case A leaves in `v`. -/
def vA (h : first (grid0.coords t)) : Vec F S2x512x1024 .bf16 :=
  (scr4.view).read (Elt F) ((scr4.view).writes (Elt F) (scr4.view).junk (pcsA c t x σ h).2.2.2.2.2.1)

/-- Case B's pieces for `v` cover its buffer. -/
theorem coverB_v (h : ¬first (grid0.coords t)) (y : S2x512x1024.Idx) : ∃ pc ∈ (pcsB c t x σ h).2.2.2.2.2.1, y ∈ pc.1.set :=
  View.cover_of_tiledL (pcsB c t x σ h).2.2.2.2.2.1 S2x512x1024.size (by sl_kernel_rfl) y
/-- What case B leaves in `v`. -/
def vB (h : ¬first (grid0.coords t)) : Vec F S2x512x1024 .bf16 :=
  (scr4.view).read (Elt F) ((scr4.view).writes (Elt F) (scr4.view).junk (pcsB c t x σ h).2.2.2.2.2.1)

open Classical in
/-- What the point leaves in the output's staging buffer. -/
def stepOut : Vec F S2x512x1024 .f32 := if h : first (grid0.coords t) then outA c t x σ h else outB c t x σ h

open Classical in
/-- What the point leaves in the scratch. -/
def stepScr : Scr F := if h : first (grid0.coords t) then
    ⟨mA c t x σ h, denA c t x σ h, numA c t x σ h, sA c t x σ h, vA c t x σ h⟩
  else ⟨mB c t x σ h, denB c t x σ h, numB c t x σ h, sB c t x σ h, vB c t x σ h⟩

set_option maxHeartbeats 1600000 in
/-- The body at point `t`: from the inputs' buffers at their blocks, the output's at anything and the scratch at `σ`, it
    leaves the inputs as they were, the output's at `stepOut` and the scratch at `stepScr`. -/
theorem body_step (E : Set ℕ) (K : PUnit → sProp 𝕄) :
    iprop(owns (c : Thread nD τ) (stg0 t) fullShare x.x0 ∗ owns (c : Thread nD τ) (stg1 t) fullShare x.x1 ∗ owns (c : Thread nD τ) (stg2 t) fullShare x.x2 ∗ owns (c : Thread nD τ) (stg3 t) fullShare x.x3 ∗ owns (c : Thread nD τ) (stg4 t) fullShare x.x4 ∗ owns (c : Thread nD τ) (stg5 t) fullShare x.x5 ∗ (∃ d, owns (c : Thread nD τ) (stg6 t) fullShare d) ∗ owns (c : Thread nD τ) scr0 fullShare σ.m ∗ owns (c : Thread nD τ) scr1 fullShare σ.den ∗ owns (c : Thread nD τ) scr2 fullShare σ.num ∗ owns (c : Thread nD τ) scr3 fullShare σ.s ∗ owns (c : Thread nD τ) scr4 fullShare σ.v
        ∗ (iprop(owns (c : Thread nD τ) (stg0 t) fullShare x.x0 ∗ owns (c : Thread nD τ) (stg1 t) fullShare x.x1 ∗ owns (c : Thread nD τ) (stg2 t) fullShare x.x2 ∗ owns (c : Thread nD τ) (stg3 t) fullShare x.x3 ∗ owns (c : Thread nD τ) (stg4 t) fullShare x.x4 ∗ owns (c : Thread nD τ) (stg5 t) fullShare x.x5 ∗ owns (c : Thread nD τ) (stg6 t) fullShare (stepOut c t x σ) ∗ owns (c : Thread nD τ) scr0 fullShare (stepScr c t x σ).m ∗ owns (c : Thread nD τ) scr1 fullShare (stepScr c t x σ).den ∗ owns (c : Thread nD τ) scr2 fullShare (stepScr c t x σ).num ∗ owns (c : Thread nD τ) scr3 fullShare (stepScr c t x σ).s ∗ owns (c : Thread nD τ) scr4 fullShare (stepScr c t x σ).v) -∗ K ⟨⟩))
      ⊢ wp frame (wpE (defs₀ (F := F)) Variants.none c none) E (bodyAt0 t) K := by
  unfold bodyAt0
  by_cases h : first (grid0.coords t)
  · rw [show stepOut c t x σ = outA c t x σ h from dif_pos h, show stepScr c t x σ = _ from dif_pos h]
    unfold outA mA denA numA sA vA
    dsimp only
    iintro ⟨H0, H1, H2, H3, H4, H5, HO, HS0, HS1, HS2, HS3, HS4, Hk⟩
    iapply ((pcsA c t x σ h).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [HO]; · iexact HO
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%e, HO⟩, ⟨%e0, HS0⟩, ⟨%e1, HS1⟩, ⟨%e2, HS2⟩, ⟨%e3, HS3⟩, ⟨%e4, HS4⟩⟩
    iapply Hk
    isplitl [H0]; · iexact H0
    isplitl [H1]; · iexact H1
    isplitl [H2]; · iexact H2
    isplitl [H3]; · iexact H3
    isplitl [H4]; · iexact H4
    isplitl [H5]; · iexact H5
    isplitl [HO]
    · unfold owns; iexists _; isplitr
      swap; · iexact HO
      ipureintro; exact View.read_writes_of_cover _ _ _ _ _ (coverA_out c t x σ h)
    isplitl [HS0]
    · unfold owns; iexists _; isplitr
      swap; · iexact HS0
      ipureintro; exact View.read_writes_of_cover _ _ _ _ _ (coverA_m c t x σ h)
    isplitl [HS1]
    · unfold owns; iexists _; isplitr
      swap; · iexact HS1
      ipureintro; exact View.read_writes_of_cover _ _ _ _ _ (coverA_den c t x σ h)
    isplitl [HS2]
    · unfold owns; iexists _; isplitr
      swap; · iexact HS2
      ipureintro; exact View.read_writes_of_cover _ _ _ _ _ (coverA_num c t x σ h)
    isplitl [HS3]
    · unfold owns; iexists _; isplitr
      swap; · iexact HS3
      ipureintro; exact View.read_writes_of_cover _ _ _ _ _ (coverA_s c t x σ h)
    unfold owns; iexists _; isplitr
    swap; · iexact HS4
    ipureintro; exact View.read_writes_of_cover _ _ _ _ _ (coverA_v c t x σ h)
  · rw [show stepOut c t x σ = outB c t x σ h from dif_neg h, show stepScr c t x σ = _ from dif_neg h]
    unfold outB mB denB numB sB vB
    dsimp only
    iintro ⟨H0, H1, H2, H3, H4, H5, HO, HS0, HS1, HS2, HS3, HS4, Hk⟩
    iapply ((pcsB c t x σ h).2.2.2.2.2.2 E K)
    isplitl [H0]; · iexact H0
    isplitl [H1]; · iexact H1
    isplitl [H2]; · iexact H2
    isplitl [H3]; · iexact H3
    isplitl [H4]; · iexact H4
    isplitl [H5]; · iexact H5
    isplitl [HO]; · iexact HO
    isplitl [HS0]; · iexact HS0
    isplitl [HS1]; · iexact HS1
    isplitl [HS2]; · iexact HS2
    isplitl [HS3]; · iexact HS3
    isplitl [HS4]; · iexact HS4
    iintro ⟨H0, H1, H2, H3, H4, H5, ⟨%e, HO⟩, ⟨%e0, HS0⟩, ⟨%e1, HS1⟩, ⟨%e2, HS2⟩, ⟨%e3, HS3⟩, ⟨%e4, HS4⟩⟩
    iapply Hk
    isplitl [H0]; · iexact H0
    isplitl [H1]; · iexact H1
    isplitl [H2]; · iexact H2
    isplitl [H3]; · iexact H3
    isplitl [H4]; · iexact H4
    isplitl [H5]; · iexact H5
    isplitl [HO]
    · unfold owns; iexists _; isplitr
      swap; · iexact HO
      ipureintro; exact View.read_writes_of_cover _ _ _ _ _ (coverB_out c t x σ h)
    isplitl [HS0]
    · unfold owns; iexists _; isplitr
      swap; · iexact HS0
      ipureintro; exact View.read_writes_of_cover _ _ _ _ _ (coverB_m c t x σ h)
    isplitl [HS1]
    · unfold owns; iexists _; isplitr
      swap; · iexact HS1
      ipureintro; exact View.read_writes_of_cover _ _ _ _ _ (coverB_den c t x σ h)
    isplitl [HS2]
    · unfold owns; iexists _; isplitr
      swap; · iexact HS2
      ipureintro; exact View.read_writes_of_cover _ _ _ _ _ (coverB_num c t x σ h)
    isplitl [HS3]
    · unfold owns; iexists _; isplitr
      swap; · iexact HS3
      ipureintro; exact View.read_writes_of_cover _ _ _ _ _ (coverB_s c t x σ h)
    unfold owns; iexists _; isplitr
    swap; · iexact HS4
    ipureintro; exact View.read_writes_of_cover _ _ _ _ _ (coverB_v c t x σ h)

end Cert.KernelIdeal.Own

end
-- ==== Proof.KernelIdealOwn.Frame.lean ====
module

public import proofs.«01_k».proof.Proof.KernelIdealOwn.Step
public import proofs.«01_k».proof.Proof.Gen.KernelIdeal.Frame
public import Idealize.ShloMosaic.Lib.Pipeline.DatRel
public import Idealize.ShloMosaic.Lib.Pipeline.ArrRel

/-!
# The run of the whole program

The launch carries a property of the scratch from point to point and states a property of each block written back; with
no property stated it is the frame.
-/

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of point `t`, cut out of the arrays the launch finds. -/
def blks (c : Dev nD) (t : Fin cfg0.N) : Blk F := ⟨iblk m c 0 t, iblk m c 1 t, iblk m c 2 t, iblk m c 3 t, iblk m c 4 t, iblk m c 5 t⟩

/-! Everything below is stated for any property `Inv c n σ` of the scratch before position `n` and any property `Ro c t X` of
what point `t` leaves in the output's staging buffer. -/
variable (Inv : Dev nD → ℕ → Scr F → Prop) (Ro : Dev nD → Fin cfg0.N → Vec F S2x512x1024 .f32 → Prop)

/-- The scratch at some contents with the property, and the generator register at some state. -/
def Phi (c : Dev nD) (n : ℕ) : sProp 𝕄 :=
  iprop(∃ σ : Scr F, ⌜Inv c n σ⌝ ∗ (owns (c : Thread nD τ) scr0 fullShare σ.m ∗ owns (c : Thread nD τ) scr1 fullShare σ.den ∗ owns (c : Thread nD τ) scr2 fullShare σ.num ∗ owns (c : Thread nD τ) scr3 fullShare σ.s ∗ owns (c : Thread nD τ) scr4 fullShare σ.v) ∗ (∃ r, prngReg c r))

/-- The proof data: inputs stay at their blocks; of the output only `Ro` is said. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (Memref.whole cc0_stg6_0 : Memref sig .tc .vmem S2x512x1024 .f32).view.read (Elt F) (Memref.whole cc0_stg6_0 : Memref sig .tc .vmem S2x512x1024 .f32).view.junk
  Φ t := Phi Inv c t.val
  q _ := fullShare
  owed _ := 0

/-- The output window is the one of which only a property is stated. -/
abbrev marked (w : Fin cfg0.W) : Bool := match w with
  | ⟨6, _⟩ => true
  | _ => false

/-- The property each window's buffer has after a point: `Ro` for the output. -/
def prop (c : Dev nD) (w : Fin cfg0.W) (t : Fin cfg0.N) (X : (cfg0.win w).block.Idx → Elt F (cfg0.win w).elt) : Prop :=
  match w, X with
  | ⟨6, _⟩, X => Ro c t X
  | _, _ => True

theorem A_eq (c : Dev nD) (w : Fin cfg0.W) : (dat m Inv c).A w = V m c (Pipeline.arrRef spec0 w) := by dsimp only [dat]

theorem after_0 (c : Dev nD) (t : Fin cfg0.N) : (dat m Inv c).after 0 t = iblk m c 0 t := by dsimp only [dat]
theorem before_0 (c : Dev nD) (t : Fin cfg0.N) (d) : (dat m Inv c).before 0 t d = iblk m c 0 t :=
  before0_0_of m (dat m Inv c) (A_eq m Inv c 0) (after_0 m Inv c) t d
theorem after_1 (c : Dev nD) (t : Fin cfg0.N) : (dat m Inv c).after 1 t = iblk m c 1 t := by dsimp only [dat]
theorem before_1 (c : Dev nD) (t : Fin cfg0.N) (d) : (dat m Inv c).before 1 t d = iblk m c 1 t :=
  before0_1_of m (dat m Inv c) (A_eq m Inv c 1) (after_1 m Inv c) t d
theorem after_2 (c : Dev nD) (t : Fin cfg0.N) : (dat m Inv c).after 2 t = iblk m c 2 t := by dsimp only [dat]
theorem before_2 (c : Dev nD) (t : Fin cfg0.N) (d) : (dat m Inv c).before 2 t d = iblk m c 2 t :=
  before0_2_of m (dat m Inv c) (A_eq m Inv c 2) (after_2 m Inv c) t d
theorem after_3 (c : Dev nD) (t : Fin cfg0.N) : (dat m Inv c).after 3 t = iblk m c 3 t := by dsimp only [dat]
theorem before_3 (c : Dev nD) (t : Fin cfg0.N) (d) : (dat m Inv c).before 3 t d = iblk m c 3 t :=
  before0_3_of m (dat m Inv c) (A_eq m Inv c 3) (after_3 m Inv c) t d
theorem after_4 (c : Dev nD) (t : Fin cfg0.N) : (dat m Inv c).after 4 t = iblk m c 4 t := by dsimp only [dat]
theorem before_4 (c : Dev nD) (t : Fin cfg0.N) (d) : (dat m Inv c).before 4 t d = iblk m c 4 t :=
  before0_4_of m (dat m Inv c) (A_eq m Inv c 4) (after_4 m Inv c) t d
theorem after_5 (c : Dev nD) (t : Fin cfg0.N) : (dat m Inv c).after 5 t = iblk m c 5 t := by dsimp only [dat]
theorem before_5 (c : Dev nD) (t : Fin cfg0.N) (d) : (dat m Inv c).before 5 t d = iblk m c 5 t :=
  before0_5_of m (dat m Inv c) (A_eq m Inv c 5) (after_5 m Inv c) t d

/-- What the body is handed at point `t`, window by window. -/
def bodyPre (c : Dev nD) (t : Fin cfg0.N) : sProp 𝕄 :=
  iprop((dat m Inv c).Φ t.castSucc ∗ (dat m Inv c).owesAt () t.castSucc
    ∗ (∃ d, owns (c : Thread nD τ) (stg0 t) fullShare ((dat m Inv c).before 0 t d)) ∗ (∃ d, owns (c : Thread nD τ) (stg1 t) fullShare ((dat m Inv c).before 1 t d)) ∗ (∃ d, owns (c : Thread nD τ) (stg2 t) fullShare ((dat m Inv c).before 2 t d)) ∗ (∃ d, owns (c : Thread nD τ) (stg3 t) fullShare ((dat m Inv c).before 3 t d)) ∗ (∃ d, owns (c : Thread nD τ) (stg4 t) fullShare ((dat m Inv c).before 4 t d)) ∗ (∃ d, owns (c : Thread nD τ) (stg5 t) fullShare ((dat m Inv c).before 5 t d))
    ∗ (∃ Y, ⌜((dat m Inv c).toRRel marked (prop Ro c)).Finds 6 t Y⌝ ∗ owns (c : Thread nD τ) (stg6 t) fullShare Y))

/-- What the body hands back. -/
def bodyPost (c : Dev nD) (t : Fin cfg0.N) : sProp 𝕄 :=
  iprop((dat m Inv c).Φ t.succ ∗ (dat m Inv c).owesAt () t.succ
    ∗ owns (c : Thread nD τ) (stg0 t) fullShare ((dat m Inv c).after 0 t) ∗ owns (c : Thread nD τ) (stg1 t) fullShare ((dat m Inv c).after 1 t) ∗ owns (c : Thread nD τ) (stg2 t) fullShare ((dat m Inv c).after 2 t) ∗ owns (c : Thread nD τ) (stg3 t) fullShare ((dat m Inv c).after 3 t) ∗ owns (c : Thread nD τ) (stg4 t) fullShare ((dat m Inv c).after 4 t) ∗ owns (c : Thread nD τ) (stg5 t) fullShare ((dat m Inv c).after 5 t)
    ∗ (∃ X, ⌜Ro c t X⌝ ∗ owns (c : Thread nD τ) (stg6 t) fullShare X))

section

variable (hstep : ∀ c (t : Fin cfg0.N) σ, Inv c t.val σ →
  Inv c (t.val + 1) (stepScr c t (blks m c t) σ) ∧ Ro c t (stepOut c t (blks m c t) σ))

include hstep

set_option maxHeartbeats 1600000 in
/-- The body's triple at any point: the property of the scratch is carried one point on. -/
theorem sound_body (c : Dev nD) (t : Fin cfg0.N) :
    bodyPre m Inv Ro c t ⊢ wp frame (wpE (defs₀ (F := F)) Variants.none c none) Set.univ (bodyAt0 t) (fun _ => bodyPost m Inv Ro c t) := by
  unfold bodyPre bodyPost
  simp only [before_0, before_1, before_2, before_3, before_4, before_5]
  rw [show (dat m Inv c).owesAt () t.succ = (dat m Inv c).owesAt () t.castSucc from rfl,
    after_0, after_1, after_2, after_3, after_4, after_5,
    show (dat m Inv c).Φ t.castSucc = Phi Inv c t.val from rfl, show (dat m Inv c).Φ t.succ = Phi Inv c (t.val + 1) from rfl]
  unfold Phi
  iintro ⟨⟨%σ, %hσ, ⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%Y, -, H6⟩⟩
  iapply (body_step c t (blks m c t) σ Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, HS0, HS1, HS2, HS3, HS4⟩
  isplitl [HS0 HS1 HS2 HS3 HS4 Hg]
  · iexists (stepScr c t (blks m c t) σ)
    isplitr; · ipureintro; exact (hstep c t σ hσ).1
    isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists (stepOut c t (blks m c t) σ)
  isplitr; · ipureintro; exact (hstep c t σ hσ).2
  iexact H6

omit hstep in
/-- The body table's row at point `t` is the body as the points spell it. -/
theorem defs_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    Pipeline.BodyObligationRel (dat (F := F) m Inv c) (defs₀ (F := F)) Variants.none () Set.univ marked (prop Ro c) := fun t => by
  rw [bigSep_W0, bigSep_W0, defs_row]
  exact triple_restated (sound_body m Inv Ro hstep c t) rfl .rfl fun _ => .rfl

/-- The run: every execution terminates with every array as the write-backs of blocks with the property `Ro` leave it, and
    with every semaphore counter at zero. -/
theorem run_main (h0 : ∀ c σ, Inv c 0 σ) :
    θ_run defs (onTc (τ := τ) (main (F := F))) (s₀ m ρ)
      (fun r => Pipeline.RDat.FramePost cfg0 (fun c => (dat m Inv c).toRRel marked (prop Ro c)) (V m) r ∧ r.2.sem = fun _ => 0) :=
  Pipeline.RDat.θ_run_frame_track (Q' := _) cfgs (0 : Fin 1) launch0 defs₀ Variants.none
    (fun c => (dat m Inv c).toRRel marked (prop Ro c)) m ρ main
    (hbody := fun c => (body_obligation m Inv Ro hstep c).toRRel) (hshare := fun c w => (dat m Inv c).share_full (fun _ => rfl) w)
    (howed := fun _ _ => rfl) (V := V m) (hmain := hmain m Variants.none) (hA := A_eq m Inv)
    (hin := fun c => by
      show _ ⊢ Phi Inv c 0
      rw [PhiA_eq]; unfold Phi
      iintro ⟨⟨⟨%d0, H0⟩, ⟨%d1, H1⟩, ⟨%d2, H2⟩, ⟨%d3, H3⟩, ⟨%d4, H4⟩⟩, Hg⟩
      iexists (Scr.mk d0 d1 d2 d3 d4)
      isplitr; · ipureintro; exact h0 c _
      isplitl [H0 H1 H2 H3 H4]
      · isplitl [H0]; · iexact H0
        isplitl [H1]; · iexact H1
        isplitl [H2]; · iexact H2
        isplitl [H3]; · iexact H3
        iexact H4
      iexact Hg)
    (hout := fun c => by
      show Phi Inv c (Fin.last cfg0.N).val ⊢ _
      rw [PhiA_eq]; unfold Phi
      iintro ⟨%σ, -, ⟨H0, H1, H2, H3, H4⟩, Hg⟩
      isplitl [H0 H1 H2 H3 H4]
      · isplitl [H0]; · iexists _; iexact H0
        isplitl [H1]; · iexists _; iexact H1
        isplitl [H2]; · iexists _; iexact H2
        isplitl [H3]; · iexists _; iexact H3
        iexists _; iexact H4
      iexact Hg)

end

/-- After such a run the four argument arrays are as launched. -/
theorem args_kept {r : PUnit × MemSt nD τ sig (Elt F)}
    (h : Pipeline.RDat.FramePost cfg0 (fun c => (dat m Inv c).toRRel marked (prop Ro c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: every execution terminates with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m (fun _ _ _ => True) (fun _ _ _ => True) h.1, h.2⟩)
    (run_main m ρ (fun _ _ _ => True) (fun _ _ _ => True) (fun _ _ _ _ => ⟨trivial, trivial⟩) fun _ _ => trivial)

end Cert.KernelIdeal.Own

end
-- ==== Proof.KernelIdealOwn.Weights.lean ====
module

public import proofs.«01_k».proof.Proof.Gen.KernelIdeal.Skeleton
public import proofs.«01_k».proof.Proof.Softmax

/-!
# The weights of one block

What the block's stored scores become: their lane sums, the new maximum, the rescaling factor and the weights, for
each of the two batch rows; then the weights side by side and multiplied into the values.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

/-- The scores of a block, read off the stored lanes. -/
def rowSum (v0 : FVec Ideal S1x512x128 .f32) (r : Fin 512) : EReal := ∑ k : Fin 128, v0 (ix3 0 r k)

/-- The first row's lane sums. -/
theorem pay8_at (v0 : FVec Ideal S1x512x128 .f32) (v12 : FVec Ideal S128x128 .bf16)
    (h5 : ∀ a b : Fin 128, v12 (ix2 a b) = (1 : EReal)) (r : Fin 512) (l : Fin 128) :
    k0_pay8 (F := Ideal) v0 v12 (ix2 r l) = rowSum v0 r := by
  pointwise [k0_pay8, rowSum, h5]

/-- The second row's lane sums. -/
theorem pay12_at (v0 : FVec Ideal S1x512x128 .f32) (v12 : FVec Ideal S128x128 .bf16)
    (h5 : ∀ a b : Fin 128, v12 (ix2 a b) = (1 : EReal)) (r : Fin 512) (l : Fin 128) :
    k0_pay12 (F := Ideal) v0 v12 (ix2 r l) = rowSum v0 r := by
  pointwise [k0_pay12, rowSum, h5]

/-- The first row's new maximum. -/
theorem pay9_at (v0 : FVec Ideal S1x512x128 .f32) (v12 : FVec Ideal S128x128 .bf16) (v15 : FVec Ideal S1x128 .f32)
    (h5 : ∀ a b : Fin 128, v12 (ix2 a b) = (1 : EReal)) (l : Fin 128) :
    k0_pay9 (F := Ideal) v0 v12 v15 (ix2 0 l) = mN (v15 (ix2 0 l)) (rowSum v0) := by
  pointwise [k0_pay9, mN, pay8_at v0 v12 h5]
  rw [ofBits_neg_inf]

/-- The second row's new maximum. -/
theorem pay14_at (v2 : FVec Ideal S1x512x128 .f32) (v26 : FVec Ideal S128x128 .bf16) (v29 : FVec Ideal S1x128 .f32)
    (h5 : ∀ a b : Fin 128, v26 (ix2 a b) = (1 : EReal)) (l : Fin 128) :
    k0_pay14 (F := Ideal) v29 (k0_pay13 v2 v26) (ix2 0 l) = mN (v29 (ix2 0 l)) (rowSum v2) := by
  pointwise [k0_pay14, k0_pay13, mN, pay12_at v2 v26 h5]
  rw [ofBits_neg_inf]

/-- The first row's rescaling factor. -/
theorem pay10_at (v0 : FVec Ideal S1x512x128 .f32) (v12 : FVec Ideal S128x128 .bf16) (v15 : FVec Ideal S1x128 .f32)
    (h5 : ∀ a b : Fin 128, v12 (ix2 a b) = (1 : EReal)) (l : Fin 128) :
    k0_pay10 (F := Ideal) v0 v12 v15 (ix2 0 l) = aN (v15 (ix2 0 l)) (rowSum v0) := by
  pointwise [k0_pay10, aN, pay9_at v0 v12 v15 h5]

/-- The second row's rescaling factor. -/
theorem pay15_at (v2 : FVec Ideal S1x512x128 .f32) (v26 : FVec Ideal S128x128 .bf16) (v29 : FVec Ideal S1x128 .f32)
    (h5 : ∀ a b : Fin 128, v26 (ix2 a b) = (1 : EReal)) (l : Fin 128) :
    k0_pay15 (F := Ideal) v29 (k0_pay13 v2 v26) (ix2 0 l) = aN (v29 (ix2 0 l)) (rowSum v2) := by
  pointwise [k0_pay15, aN, pay14_at v2 v26 v29 h5]

/-- The first row's weights. -/
theorem pay11_at (v0 : FVec Ideal S1x512x128 .f32) (v12 : FVec Ideal S128x128 .bf16) (v15 : FVec Ideal S1x128 .f32)
    (h5 : ∀ a b : Fin 128, v12 (ix2 a b) = (1 : EReal)) (r : Fin 512) (l : Fin 128) :
    k0_pay11 (F := Ideal) v0 v12 v15 (ix2 r l) = eN (v15 (ix2 0 l)) (rowSum v0) r := by
  pointwise [k0_pay11, eN, pay9_at v0 v12 v15 h5, pay8_at v0 v12 h5]

/-- The second row's weights. -/
theorem pay16_at (v2 : FVec Ideal S1x512x128 .f32) (v26 : FVec Ideal S128x128 .bf16) (v29 : FVec Ideal S1x128 .f32)
    (h5 : ∀ a b : Fin 128, v26 (ix2 a b) = (1 : EReal)) (r : Fin 512) (l : Fin 128) :
    k0_pay16 (F := Ideal) (k0_pay12 v2 v26) v29 (k0_pay13 v2 v26) (ix2 r l) = eN (v29 (ix2 0 l)) (rowSum v2) r := by
  pointwise [k0_pay16, eN, pay14_at v2 v26 v29 h5, pay12_at v2 v26 h5]

/-- The weights side by side: first row. -/
theorem pay18_fst (v24 : FVec Ideal S512x128 .bf16) (v28 : FVec Ideal S512x128 .f32) (v29 : FVec Ideal S1x128 .f32)
    (v30 : FVec Ideal S128 .f32) (r : Fin 512) (l : Fin 128) :
    k0_pay18 (F := Ideal) v24 v28 v29 v30 (ix2 r ⟨l.val, by omega⟩) = v24 (ix2 r l) := by
  pointwise [k0_pay18]

/-- The weights side by side: second row. -/
theorem pay18_snd (v24 : FVec Ideal S512x128 .bf16) (v28 : FVec Ideal S512x128 .f32) (v29 : FVec Ideal S1x128 .f32)
    (v30 : FVec Ideal S128 .f32) (r : Fin 512) (l : Fin 128) :
    k0_pay18 (F := Ideal) v24 v28 v29 v30 (ix2 r ⟨128 + l.val, by omega⟩) = k0_pay16 v28 v29 v30 (ix2 r l) := by
  pointwise [k0_pay18]

/-- One group of 128 columns of the values, times the weights. -/
theorem mul_slice_at (v : FVec Ideal S512x1024 .bf16) (e : FVec Ideal S512x128 .bf16) (o : ℕ) (ho : o + 128 ≤ 1024)
    (h : Shape.Slices S512x1024 ![0, o] S512x128) (r : Fin 512) (l : Fin 128) :
    mulf (F := Ideal) (extractStridedSlice S512x128 ![0, o] v h) e (ix2 r l)
      = (v (ix2 r ⟨o + l.val, by omega⟩) * e (ix2 r l) : EReal) := by
  pointwise

/-- The sixteen groups of 128 columns that the kernel puts side by side. -/
def evGroups (v5 v7 : FVec Ideal S512x1024 .bf16) (v24 e1 : FVec Ideal S512x128 .bf16) :
    Fin 16 → S512x128.Idx → Ideal .bf16 :=
  ![mulf (extractStridedSlice S512x128 ![0, 0] v5 slices_S512x1024_o0_0_S512x128) v24,
      mulf (extractStridedSlice S512x128 ![0, 128] v5 slices_S512x1024_o0_128_S512x128) v24,
      mulf (extractStridedSlice S512x128 ![0, 256] v5 slices_S512x1024_o0_256_S512x128) v24,
      mulf (extractStridedSlice S512x128 ![0, 384] v5 slices_S512x1024_o0_384_S512x128) v24,
      mulf (extractStridedSlice S512x128 ![0, 512] v5 slices_S512x1024_o0_512_S512x128) v24,
      mulf (extractStridedSlice S512x128 ![0, 640] v5 slices_S512x1024_o0_640_S512x128) v24,
      mulf (extractStridedSlice S512x128 ![0, 768] v5 slices_S512x1024_o0_768_S512x128) v24,
      mulf (extractStridedSlice S512x128 ![0, 896] v5 slices_S512x1024_o0_896_S512x128) v24,
      mulf (extractStridedSlice S512x128 ![0, 0] v7 slices_S512x1024_o0_0_S512x128) e1,
      mulf (extractStridedSlice S512x128 ![0, 128] v7 slices_S512x1024_o0_128_S512x128) e1,
      mulf (extractStridedSlice S512x128 ![0, 256] v7 slices_S512x1024_o0_256_S512x128) e1,
      mulf (extractStridedSlice S512x128 ![0, 384] v7 slices_S512x1024_o0_384_S512x128) e1,
      mulf (extractStridedSlice S512x128 ![0, 512] v7 slices_S512x1024_o0_512_S512x128) e1,
      mulf (extractStridedSlice S512x128 ![0, 640] v7 slices_S512x1024_o0_640_S512x128) e1,
      mulf (extractStridedSlice S512x128 ![0, 768] v7 slices_S512x1024_o0_768_S512x128) e1,
      mulf (extractStridedSlice S512x128 ![0, 896] v7 slices_S512x1024_o0_896_S512x128) e1]

/-- A group of the first row. -/
theorem evGroups_fst (v5 v7 : FVec Ideal S512x1024 .bf16) (v24 e1 : FVec Ideal S512x128 .bf16) (j : Fin 8) (r : Fin 512)
    (l : Fin 128) : evGroups v5 v7 v24 e1 ⟨j.val, by omega⟩ (ix2 r l)
      = (v5 (ix2 r ⟨128 * j.val + l.val, by omega⟩) * v24 (ix2 r l) : EReal) := by
  fin_cases j <;> exact mul_slice_at _ _ _ (by decide) _ r l

/-- A group of the second row. -/
theorem evGroups_snd (v5 v7 : FVec Ideal S512x1024 .bf16) (v24 e1 : FVec Ideal S512x128 .bf16) (j : Fin 8) (r : Fin 512)
    (l : Fin 128) : evGroups v5 v7 v24 e1 ⟨8 + j.val, by omega⟩ (ix2 r l)
      = (v7 (ix2 r ⟨128 * j.val + l.val, by omega⟩) * e1 (ix2 r l) : EReal) := by
  fin_cases j <;> exact mul_slice_at _ _ _ (by decide) _ r l

/-- The values times the weights, side by side, read in its groups. -/
theorem pay17_groups (v5 v7 : FVec Ideal S512x1024 .bf16) (v24 : FVec Ideal S512x128 .bf16) (v28 : FVec Ideal S512x128 .f32)
    (v29 : FVec Ideal S1x128 .f32) (v30 : FVec Ideal S128 .f32) (n : Fin 16) (r : Fin 512) (l : Fin 128) :
    k0_pay17 (F := Ideal) v5 v7 v24 v28 v29 v30 (ix2 r ⟨128 * n.val + l.val, by omega⟩)
      = evGroups v5 v7 v24 (k0_pay16 v28 v29 v30) n (ix2 r l) := by
  refine Eq.trans ?_ (concatenate_ofFn_apply (t := S512x2048) (s₁ := S512x128) 1 (evGroups v5 v7 v24 (k0_pay16 v28 v29 v30))
    concatenates_S512x128_S512x128_S512x128_S512x128_S512x128_S512x128_S512x128_S512x128_S512x128_S512x128_S512x128_S512x128_S512x128_S512x128_S512x128_S512x128_S512x2048_d1
    rfl 128 rfl (ix2 r ⟨128 * n.val + l.val, by omega⟩) n (by simp; omega) (ix2 r l) (by simp; omega) (fun b hb => ?_))
  · rfl
  · fin_cases b
    · rfl
    · exact absurd rfl hb

/-- The values times the weights, side by side: first row. -/
theorem pay17_fst (v5 v7 : FVec Ideal S512x1024 .bf16) (v24 : FVec Ideal S512x128 .bf16) (v28 : FVec Ideal S512x128 .f32)
    (v29 : FVec Ideal S1x128 .f32) (v30 : FVec Ideal S128 .f32) (r : Fin 512) (d : Fin 1024) :
    k0_pay17 (F := Ideal) v5 v7 v24 v28 v29 v30 (ix2 r ⟨d.val, by omega⟩)
      = (v5 (ix2 r d) * v24 (ix2 r ⟨d.val % 128, by omega⟩) : EReal) := by
  have h := (pay17_groups v5 v7 v24 v28 v29 v30 ⟨d.val / 128, by omega⟩ r ⟨d.val % 128, by omega⟩).trans
    (evGroups_fst v5 v7 v24 (k0_pay16 v28 v29 v30) ⟨d.val / 128, by omega⟩ r ⟨d.val % 128, by omega⟩)
  simpa only [Nat.div_add_mod] using h

/-- The values times the weights, side by side: second row. -/
theorem pay17_snd (v5 v7 : FVec Ideal S512x1024 .bf16) (v24 : FVec Ideal S512x128 .bf16) (v28 : FVec Ideal S512x128 .f32)
    (v29 : FVec Ideal S1x128 .f32) (v30 : FVec Ideal S128 .f32) (r : Fin 512) (d : Fin 1024) :
    k0_pay17 (F := Ideal) v5 v7 v24 v28 v29 v30 (ix2 r ⟨1024 + d.val, by omega⟩)
      = (v7 (ix2 r d) * k0_pay16 v28 v29 v30 (ix2 r ⟨d.val % 128, by omega⟩) : EReal) := by
  have h := (pay17_groups v5 v7 v24 v28 v29 v30 ⟨8 + d.val / 128, by omega⟩ r ⟨d.val % 128, by omega⟩).trans
    (evGroups_snd v5 v7 v24 (k0_pay16 v28 v29 v30) ⟨d.val / 128, by omega⟩ r ⟨d.val % 128, by omega⟩)
  have e : 128 * (8 + d.val / 128) + d.val % 128 = 1024 + d.val := by omega
  simpa only [Nat.div_add_mod, e] using h

end Cert.KernelIdeal.Own

end
-- ==== Proof.KernelIdealOwn.Cums.lean ====
module

public import proofs.«01_k».proof.Proof.KernelIdealOwn.Weights

/-!
# Prefix sums of one block

The 512 rows of a block are summed in eight groups of 64 rows, each by a product with the lower triangle of ones, and
the sums of the earlier groups are added in. Read at a row, the result is the sum of all rows up to it.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

/-- The sum of the rows of group `g` up to row `a` of the group. -/
def groupSum (f : Fin 512 → EReal) (g : Fin 8) (a : Fin 64) : EReal :=
  ∑ k : Fin 64, if k.val ≤ a.val then f ⟨g.val * 64 + k.val, by omega⟩ else 0

/-- The eight sums a block's row is made of: its own group's up to it, after the whole of every earlier group. -/
def before (f : Fin 512 → EReal) : Fin 8 → EReal
  | ⟨0, _⟩ => 0
  | ⟨1, _⟩ => groupSum f 0 63
  | ⟨2, _⟩ => groupSum f 0 63 + groupSum f 1 63
  | ⟨3, _⟩ => groupSum f 0 63 + groupSum f 1 63 + groupSum f 2 63
  | ⟨4, _⟩ => groupSum f 0 63 + groupSum f 1 63 + groupSum f 2 63 + groupSum f 3 63
  | ⟨5, _⟩ => groupSum f 0 63 + groupSum f 1 63 + groupSum f 2 63 + groupSum f 3 63 + groupSum f 4 63
  | ⟨6, _⟩ => groupSum f 0 63 + groupSum f 1 63 + groupSum f 2 63 + groupSum f 3 63 + groupSum f 4 63 + groupSum f 5 63
  | ⟨7, _⟩ => groupSum f 0 63 + groupSum f 1 63 + groupSum f 2 63 + groupSum f 3 63 + groupSum f 4 63 + groupSum f 5 63
      + groupSum f 6 63

/-- A whole group and the groups before it. -/
theorem before_eq (f : Fin 512 → EReal) (g : Fin 8) (a : Fin 64) :
    groupSum f g a + before f g = ∑ k : Fin 512, if k.val ≤ g.val * 64 + a.val then f k else 0 := by
  have ht : ∀ j : Fin 8, (∑ t : Fin 64, if j.val * 64 + t.val ≤ g.val * 64 + a.val then f ⟨j.val * 64 + t.val, by omega⟩ else 0)
      = if j.val < g.val then groupSum f j 63 else if j.val = g.val then groupSum f g a else 0 := fun j => by
    by_cases h1 : j.val < g.val
    · rw [if_pos h1]
      refine Finset.sum_congr rfl fun t _ => ?_
      rw [if_pos (by omega), if_pos (by show t.val ≤ 63; omega)]
    · by_cases h2 : j.val = g.val
      · obtain rfl : j = g := Fin.ext h2
        rw [if_neg h1, if_pos rfl]
        refine Finset.sum_congr rfl fun t _ => ?_
        by_cases h3 : t.val ≤ a.val
        · rw [if_pos (by omega), if_pos h3]
        · rw [if_neg (by omega), if_neg h3]
      · rw [if_neg h1, if_neg h2]
        exact Finset.sum_eq_zero fun t _ => if_neg (by omega)
  refine Eq.trans ?_ (Fin.sum_univ_tiles 8 64 rfl (fun k : Fin 512 => if k.val ≤ g.val * 64 + a.val then f k else 0)).symm
  refine Eq.trans ?_ (Finset.sum_congr rfl fun j _ => (ht j).symm)
  rw [Fin.sum_univ_eight]
  fin_cases g <;> simp [before] <;> ac_rfl

/-- The eight groups of 64 rows that the kernel stacks, 2048 columns wide. -/
def groups2048 (p0 p1 p2 p3 p4 p5 p6 p7 : FVec Ideal S64x2048 .f32) : Fin 8 → S64x2048.Idx → Ideal .f32 :=
  ![p0, k0_pay49 p0 p1, k0_pay51 p0 p1 p2, k0_pay53 p0 p1 p2 p3, k0_pay55 p0 p1 p2 p3 p4,
    addf p5 (broadcastTo S64x2048 (k0_pay43 p0 p1 p2 p3 p4) broadcasts_S1x2048_S64x2048),
    addf p6 (broadcastTo S64x2048 (k0_pay45 p0 p1 p2 p3 p4 p5) broadcasts_S1x2048_S64x2048),
    addf p7 (broadcastTo S64x2048 (k0_pay47 p0 p1 p2 p3 p4 p5 p6) broadcasts_S1x2048_S64x2048)]

/-- Each stacked group holds its own sums and the earlier groups' last rows. -/
theorem groups2048_at (p0 p1 p2 p3 p4 p5 p6 p7 : FVec Ideal S64x2048 .f32) (f : Fin 2048 → Fin 512 → EReal)
    (h0 : ∀ (a : Fin 64) (d : Fin 2048), p0 (ix2 a d) = groupSum (f d) 0 a)
    (h1 : ∀ (a : Fin 64) (d : Fin 2048), p1 (ix2 a d) = groupSum (f d) 1 a)
    (h2 : ∀ (a : Fin 64) (d : Fin 2048), p2 (ix2 a d) = groupSum (f d) 2 a)
    (h3 : ∀ (a : Fin 64) (d : Fin 2048), p3 (ix2 a d) = groupSum (f d) 3 a)
    (h4 : ∀ (a : Fin 64) (d : Fin 2048), p4 (ix2 a d) = groupSum (f d) 4 a)
    (h5 : ∀ (a : Fin 64) (d : Fin 2048), p5 (ix2 a d) = groupSum (f d) 5 a)
    (h6 : ∀ (a : Fin 64) (d : Fin 2048), p6 (ix2 a d) = groupSum (f d) 6 a)
    (h7 : ∀ (a : Fin 64) (d : Fin 2048), p7 (ix2 a d) = groupSum (f d) 7 a)
    (g : Fin 8) (a : Fin 64) (d : Fin 2048) :
    groups2048 p0 p1 p2 p3 p4 p5 p6 p7 g (ix2 a d) = groupSum (f d) g a + before (f d) g := by
  fin_cases g
  · exact (h0 a d).trans (add_zero _).symm
  · show k0_pay49 p0 p1 (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show k0_pay51 p0 p1 p2 (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show k0_pay53 p0 p1 p2 p3 (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show k0_pay55 p0 p1 p2 p3 p4 (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show addf (F := Ideal) p5 (broadcastTo S64x2048 (k0_pay43 p0 p1 p2 p3 p4) broadcasts_S1x2048_S64x2048) (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show addf (F := Ideal) p6 (broadcastTo S64x2048 (k0_pay45 p0 p1 p2 p3 p4 p5) broadcasts_S1x2048_S64x2048) (ix2 a d) = _
    pointwise [k0_pay35, k0_pay37, k0_pay39, k0_pay41, k0_pay43, k0_pay45, k0_pay47, k0_pay49, k0_pay51, k0_pay53, k0_pay55, h0, h1, h2, h3, h4, h5, h6, h7]
    rfl
  · show addf (F := Ideal) p7 (broadcastTo S64x2048 (k0_pay47 p0 p1 p2 p3 p4 p5 p6) broadcasts_S1x2048_S64x2048) (ix2 a d) = _
    pointwise [k0_pay35, k0_pay37, k0_pay39, k0_pay41, k0_pay43, k0_pay45, k0_pay47, k0_pay49, k0_pay51, k0_pay53, k0_pay55, h0, h1, h2, h3, h4, h5, h6, h7]
    rfl

/-- The stack, read at a row: the sum of the rows up to it. -/
theorem pay57_at (p0 p1 p2 p3 p4 p5 p6 p7 : FVec Ideal S64x2048 .f32) (f : Fin 2048 → Fin 512 → EReal)
    (h0 : ∀ (a : Fin 64) (d : Fin 2048), p0 (ix2 a d) = groupSum (f d) 0 a)
    (h1 : ∀ (a : Fin 64) (d : Fin 2048), p1 (ix2 a d) = groupSum (f d) 1 a)
    (h2 : ∀ (a : Fin 64) (d : Fin 2048), p2 (ix2 a d) = groupSum (f d) 2 a)
    (h3 : ∀ (a : Fin 64) (d : Fin 2048), p3 (ix2 a d) = groupSum (f d) 3 a)
    (h4 : ∀ (a : Fin 64) (d : Fin 2048), p4 (ix2 a d) = groupSum (f d) 4 a)
    (h5 : ∀ (a : Fin 64) (d : Fin 2048), p5 (ix2 a d) = groupSum (f d) 5 a)
    (h6 : ∀ (a : Fin 64) (d : Fin 2048), p6 (ix2 a d) = groupSum (f d) 6 a)
    (h7 : ∀ (a : Fin 64) (d : Fin 2048), p7 (ix2 a d) = groupSum (f d) 7 a)
    (r : Fin 512) (d : Fin 2048) :
    k0_pay57 (F := Ideal) p0 p5 p6 p7 (k0_pay43 p0 p1 p2 p3 p4) (k0_pay45 p0 p1 p2 p3 p4 p5) (k0_pay47 p0 p1 p2 p3 p4 p5 p6)
      (k0_pay49 p0 p1) (k0_pay51 p0 p1 p2) (k0_pay53 p0 p1 p2 p3) (k0_pay55 p0 p1 p2 p3 p4) (ix2 r d)
      = ∑ k : Fin 512, if k.val ≤ r.val then f d k else 0 := by
  refine Eq.trans (Eq.trans ?_ (concatenate_ofFn_apply (t := S512x2048) (s₁ := S64x2048) 0 (groups2048 p0 p1 p2 p3 p4 p5 p6 p7)
    concatenates_S64x2048_S64x2048_S64x2048_S64x2048_S64x2048_S64x2048_S64x2048_S64x2048_S512x2048_d0
    rfl 64 rfl (ix2 r d) ⟨r.val / 64, by omega⟩ rfl (ix2 ⟨r.val % 64, by omega⟩ d) rfl (fun b hb => ?_)))
    ((groups2048_at p0 p1 p2 p3 p4 p5 p6 p7 f h0 h1 h2 h3 h4 h5 h6 h7 ⟨r.val / 64, by omega⟩ ⟨r.val % 64, by omega⟩ d).trans
      ((before_eq _ _ _).trans (Finset.sum_congr rfl fun k _ => ?_)))
  · rfl
  · fin_cases b
    · exact absurd rfl hb
    · rfl
  · have e : r.val / 64 * 64 + r.val % 64 = r.val := Nat.div_add_mod' r.val 64
    show (if k.val ≤ r.val / 64 * 64 + r.val % 64 then f d k else 0) = _
    rw [e]

/-- The eight groups of 64 rows that the kernel stacks, 256 columns wide. -/
def groups256 (p0 p1 p2 p3 p4 p5 p6 p7 : FVec Ideal S64x256 .f32) (q : FVec Ideal S1x256 .f32) : Fin 8 → S64x256.Idx → Ideal .f32 :=
  ![p0, k0_pay50 p0 p1, k0_pay52 p0 p1 p2, k0_pay54 p0 p1 p2 p3, k0_pay56 p0 p1 p2 p3 p4,
    addf p5 (broadcastTo S64x256 (k0_pay44 p0 p1 p2 p3 p4) broadcasts_S1x256_S64x256),
    addf p6 (broadcastTo S64x256 (k0_pay46 p0 p1 p2 p3 p4 p5) broadcasts_S1x256_S64x256),
    addf p7 (broadcastTo S64x256 q broadcasts_S1x256_S64x256)]

/-- Each stacked group holds its own sums and the earlier groups' last rows. -/
theorem groups256_at (p0 p1 p2 p3 p4 p5 p6 p7 : FVec Ideal S64x256 .f32) (f : Fin 256 → Fin 512 → EReal)
    (q : FVec Ideal S1x256 .f32)
    (h0 : ∀ (a : Fin 64) (d : Fin 256), p0 (ix2 a d) = groupSum (f d) 0 a)
    (h1 : ∀ (a : Fin 64) (d : Fin 256), p1 (ix2 a d) = groupSum (f d) 1 a)
    (h2 : ∀ (a : Fin 64) (d : Fin 256), p2 (ix2 a d) = groupSum (f d) 2 a)
    (h3 : ∀ (a : Fin 64) (d : Fin 256), p3 (ix2 a d) = groupSum (f d) 3 a)
    (h4 : ∀ (a : Fin 64) (d : Fin 256), p4 (ix2 a d) = groupSum (f d) 4 a)
    (h5 : ∀ (a : Fin 64) (d : Fin 256), p5 (ix2 a d) = groupSum (f d) 5 a)
    (h6 : ∀ (a : Fin 64) (d : Fin 256), p6 (ix2 a d) = groupSum (f d) 6 a)
    (h7 : ∀ (a : Fin 64) (d : Fin 256), p7 (ix2 a d) = groupSum (f d) 7 a)
    (hq : ∀ d : Fin 256, q (ix2 0 d) = before (f d) 7)
    (g : Fin 8) (a : Fin 64) (d : Fin 256) :
    groups256 p0 p1 p2 p3 p4 p5 p6 p7 q g (ix2 a d) = groupSum (f d) g a + before (f d) g := by
  fin_cases g
  · exact (h0 a d).trans (add_zero _).symm
  · show k0_pay50 p0 p1 (ix2 a d) = _
    pointwise [k0_pay36, k0_pay38, k0_pay40, k0_pay42, k0_pay44, k0_pay46, k0_pay50, k0_pay52, k0_pay54, k0_pay56, h0, h1, h2, h3, h4, h5, h6, h7, hq]
    rfl
  · show k0_pay52 p0 p1 p2 (ix2 a d) = _
    pointwise [k0_pay36, k0_pay38, k0_pay40, k0_pay42, k0_pay44, k0_pay46, k0_pay50, k0_pay52, k0_pay54, k0_pay56, h0, h1, h2, h3, h4, h5, h6, h7, hq]
    rfl
  · show k0_pay54 p0 p1 p2 p3 (ix2 a d) = _
    pointwise [k0_pay36, k0_pay38, k0_pay40, k0_pay42, k0_pay44, k0_pay46, k0_pay50, k0_pay52, k0_pay54, k0_pay56, h0, h1, h2, h3, h4, h5, h6, h7, hq]
    rfl
  · show k0_pay56 p0 p1 p2 p3 p4 (ix2 a d) = _
    pointwise [k0_pay36, k0_pay38, k0_pay40, k0_pay42, k0_pay44, k0_pay46, k0_pay50, k0_pay52, k0_pay54, k0_pay56, h0, h1, h2, h3, h4, h5, h6, h7, hq]
    rfl
  · show addf (F := Ideal) p5 (broadcastTo S64x256 (k0_pay44 p0 p1 p2 p3 p4) broadcasts_S1x256_S64x256) (ix2 a d) = _
    pointwise [k0_pay36, k0_pay38, k0_pay40, k0_pay42, k0_pay44, k0_pay46, k0_pay50, k0_pay52, k0_pay54, k0_pay56, h0, h1, h2, h3, h4, h5, h6, h7, hq]
    rfl
  · show addf (F := Ideal) p6 (broadcastTo S64x256 (k0_pay46 p0 p1 p2 p3 p4 p5) broadcasts_S1x256_S64x256) (ix2 a d) = _
    pointwise [k0_pay36, k0_pay38, k0_pay40, k0_pay42, k0_pay44, k0_pay46, k0_pay50, k0_pay52, k0_pay54, k0_pay56, h0, h1, h2, h3, h4, h5, h6, h7, hq]
    rfl
  · show addf (F := Ideal) p7 (broadcastTo S64x256 q broadcasts_S1x256_S64x256) (ix2 a d) = _
    pointwise [k0_pay36, k0_pay38, k0_pay40, k0_pay42, k0_pay44, k0_pay46, k0_pay50, k0_pay52, k0_pay54, k0_pay56, h0, h1, h2, h3, h4, h5, h6, h7, hq]

/-- The stack, read at a row: the sum of the rows up to it. -/
theorem pay58_at (p0 p1 p2 p3 p4 p5 p6 p7 : FVec Ideal S64x256 .f32) (f : Fin 256 → Fin 512 → EReal) (q : FVec Ideal S1x256 .f32)
    (h0 : ∀ (a : Fin 64) (d : Fin 256), p0 (ix2 a d) = groupSum (f d) 0 a)
    (h1 : ∀ (a : Fin 64) (d : Fin 256), p1 (ix2 a d) = groupSum (f d) 1 a)
    (h2 : ∀ (a : Fin 64) (d : Fin 256), p2 (ix2 a d) = groupSum (f d) 2 a)
    (h3 : ∀ (a : Fin 64) (d : Fin 256), p3 (ix2 a d) = groupSum (f d) 3 a)
    (h4 : ∀ (a : Fin 64) (d : Fin 256), p4 (ix2 a d) = groupSum (f d) 4 a)
    (h5 : ∀ (a : Fin 64) (d : Fin 256), p5 (ix2 a d) = groupSum (f d) 5 a)
    (h6 : ∀ (a : Fin 64) (d : Fin 256), p6 (ix2 a d) = groupSum (f d) 6 a)
    (h7 : ∀ (a : Fin 64) (d : Fin 256), p7 (ix2 a d) = groupSum (f d) 7 a)
    (hq : ∀ d : Fin 256, q (ix2 0 d) = before (f d) 7)
    (r : Fin 512) (d : Fin 256) :
    k0_pay58 (F := Ideal) p0 p5 p6 p7 (k0_pay44 p0 p1 p2 p3 p4) (k0_pay46 p0 p1 p2 p3 p4 p5) q
      (k0_pay50 p0 p1) (k0_pay52 p0 p1 p2) (k0_pay54 p0 p1 p2 p3) (k0_pay56 p0 p1 p2 p3 p4) (ix2 r d)
      = ∑ k : Fin 512, if k.val ≤ r.val then f d k else 0 := by
  refine Eq.trans (Eq.trans ?_ (concatenate_ofFn_apply (t := S512x256) (s₁ := S64x256) 0 (groups256 p0 p1 p2 p3 p4 p5 p6 p7 q)
    concatenates_S64x256_S64x256_S64x256_S64x256_S64x256_S64x256_S64x256_S64x256_S512x256_d0
    rfl 64 rfl (ix2 r d) ⟨r.val / 64, by omega⟩ rfl (ix2 ⟨r.val % 64, by omega⟩ d) rfl (fun b hb => ?_)))
    ((groups256_at p0 p1 p2 p3 p4 p5 p6 p7 f q h0 h1 h2 h3 h4 h5 h6 h7 hq ⟨r.val / 64, by omega⟩ ⟨r.val % 64, by omega⟩ d).trans
      ((before_eq _ _ _).trans (Finset.sum_congr rfl fun k _ => ?_)))
  · rfl
  · fin_cases b
    · exact absurd rfl hb
    · rfl
  · have e : r.val / 64 * 64 + r.val % 64 = r.val := Nat.div_add_mod' r.val 64
    show (if k.val ≤ r.val / 64 * 64 + r.val % 64 then f d k else 0) = _
    rw [e]

/-- The product with the lower triangle of ones, for one group of 64 rows and one column. -/
theorem tri_sum (lt : FVec Ideal S64x64 .bf16)
    (h2 : ∀ a k : Fin 64, lt (ix2 a k) = if k.val ≤ a.val then (1 : EReal) else 0) (f : Fin 512 → EReal) (g : Fin 8) (a : Fin 64)
    (e : Fin 64 → EReal) (he : ∀ k : Fin 64, e k = f ⟨g.val * 64 + k.val, by omega⟩) :
    (∑ k : Fin 64, (lt (ix2 a k) * e k : EReal)) = groupSum f g a :=
  Finset.sum_congr rfl fun k _ => by
    rw [h2, he]
    split
    · rw [one_mul]
    · rw [zero_mul]

/-- Group 0's sums, 2048 columns wide. -/
theorem pay19_at (v5 v7 : FVec Ideal S512x1024 .bf16) (v24 : FVec Ideal S512x128 .bf16) (v28 : FVec Ideal S512x128 .f32)
    (v29 : FVec Ideal S1x128 .f32) (v30 : FVec Ideal S128 .f32) (lt : FVec Ideal S64x64 .bf16)
    (h2 : ∀ a k : Fin 64, lt (ix2 a k) = if k.val ≤ a.val then (1 : EReal) else 0) (a : Fin 64) (d : Fin 2048) :
    k0_pay19 (F := Ideal) v5 v7 v24 v28 v29 v30 lt (ix2 a d) = groupSum (fun k => k0_pay17 v5 v7 v24 v28 v29 v30 (ix2 k d)) 0 a := by
  pointwise [k0_pay19]
  exact tri_sum lt h2 _ 0 a _ fun k => congrArg (fun i => k0_pay17 v5 v7 v24 v28 v29 v30 (ix2 i d)) (Fin.ext (by show k.val = 0 * 64 + k.val; omega))

/-- Group 1's sums, 2048 columns wide. -/
theorem pay21_at (v5 v7 : FVec Ideal S512x1024 .bf16) (v24 : FVec Ideal S512x128 .bf16) (v28 : FVec Ideal S512x128 .f32)
    (v29 : FVec Ideal S1x128 .f32) (v30 : FVec Ideal S128 .f32) (lt : FVec Ideal S64x64 .bf16)
    (h2 : ∀ a k : Fin 64, lt (ix2 a k) = if k.val ≤ a.val then (1 : EReal) else 0) (a : Fin 64) (d : Fin 2048) :
    k0_pay21 (F := Ideal) v5 v7 v24 v28 v29 v30 lt (ix2 a d) = groupSum (fun k => k0_pay17 v5 v7 v24 v28 v29 v30 (ix2 k d)) 1 a := by
  pointwise [k0_pay21]
  exact tri_sum lt h2 _ 1 a _ fun k => rfl

/-- Group 2's sums, 2048 columns wide. -/
theorem pay23_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay23 (F := Ideal) v71 lt (ix2 a d) = groupSum (fun k => v71 (ix2 k d)) 2 a := by
  pointwise [k0_pay23]
  exact tri_sum lt h2 _ 2 a _ fun k => rfl

/-- Group 3's sums, 2048 columns wide. -/
theorem pay25_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay25 (F := Ideal) v71 lt (ix2 a d) = groupSum (fun k => v71 (ix2 k d)) 3 a := by
  pointwise [k0_pay25]
  exact tri_sum lt h2 _ 3 a _ fun k => rfl

/-- Group 4's sums, 2048 columns wide. -/
theorem pay27_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay27 (F := Ideal) v71 lt (ix2 a d) = groupSum (fun k => v71 (ix2 k d)) 4 a := by
  pointwise [k0_pay27]
  exact tri_sum lt h2 _ 4 a _ fun k => rfl

/-- Group 5's sums, 2048 columns wide. -/
theorem pay29_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay29 (F := Ideal) v71 lt (ix2 a d) = groupSum (fun k => v71 (ix2 k d)) 5 a := by
  pointwise [k0_pay29]
  exact tri_sum lt h2 _ 5 a _ fun k => rfl

/-- Group 6's sums, 2048 columns wide. -/
theorem pay31_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay31 (F := Ideal) v71 lt (ix2 a d) = groupSum (fun k => v71 (ix2 k d)) 6 a := by
  pointwise [k0_pay31]
  exact tri_sum lt h2 _ 6 a _ fun k => rfl

/-- Group 7's sums, 2048 columns wide. -/
theorem pay33_at (v71 : FVec Ideal S512x2048 .bf16) (lt : FVec Ideal S64x64 .bf16)
    (h2 : ∀ a k : Fin 64, lt (ix2 a k) = if k.val ≤ a.val then (1 : EReal) else 0) (a : Fin 64) (d : Fin 2048) :
    k0_pay33 (F := Ideal) v71 lt (ix2 a d) = groupSum (fun k => v71 (ix2 k d)) 7 a := by
  pointwise [k0_pay33]
  exact tri_sum lt h2 _ 7 a _ fun k => rfl

/-- Group 0's sums, 256 columns wide. -/
theorem pay20_at (v24 : FVec Ideal S512x128 .bf16) (v28 : FVec Ideal S512x128 .f32)
    (v29 : FVec Ideal S1x128 .f32) (v30 : FVec Ideal S128 .f32) (lt : FVec Ideal S64x64 .bf16)
    (h2 : ∀ a k : Fin 64, lt (ix2 a k) = if k.val ≤ a.val then (1 : EReal) else 0) (a : Fin 64) (d : Fin 256) :
    k0_pay20 (F := Ideal) v24 v28 v29 v30 lt (ix2 a d) = groupSum (fun k => k0_pay18 v24 v28 v29 v30 (ix2 k d)) 0 a := by
  pointwise [k0_pay20]
  exact tri_sum lt h2 _ 0 a _ fun k => congrArg (fun i => k0_pay18 v24 v28 v29 v30 (ix2 i d)) (Fin.ext (by show k.val = 0 * 64 + k.val; omega))

/-- Group 1's sums, 256 columns wide. -/
theorem pay22_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay22 (F := Ideal) v72 lt (ix2 a d) = groupSum (fun k => v72 (ix2 k d)) 1 a := by
  pointwise [k0_pay22]
  exact tri_sum lt h2 _ 1 a _ fun k => rfl

/-- Group 2's sums, 256 columns wide. -/
theorem pay24_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay24 (F := Ideal) v72 lt (ix2 a d) = groupSum (fun k => v72 (ix2 k d)) 2 a := by
  pointwise [k0_pay24]
  exact tri_sum lt h2 _ 2 a _ fun k => rfl

/-- Group 3's sums, 256 columns wide. -/
theorem pay26_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay26 (F := Ideal) v72 lt (ix2 a d) = groupSum (fun k => v72 (ix2 k d)) 3 a := by
  pointwise [k0_pay26]
  exact tri_sum lt h2 _ 3 a _ fun k => rfl

/-- Group 4's sums, 256 columns wide. -/
theorem pay28_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay28 (F := Ideal) v72 lt (ix2 a d) = groupSum (fun k => v72 (ix2 k d)) 4 a := by
  pointwise [k0_pay28]
  exact tri_sum lt h2 _ 4 a _ fun k => rfl

/-- Group 5's sums, 256 columns wide. -/
theorem pay30_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay30 (F := Ideal) v72 lt (ix2 a d) = groupSum (fun k => v72 (ix2 k d)) 5 a := by
  pointwise [k0_pay30]
  exact tri_sum lt h2 _ 5 a _ fun k => rfl

/-- Group 6's sums, 256 columns wide. -/
theorem pay32_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay32 (F := Ideal) v72 lt (ix2 a d) = groupSum (fun k => v72 (ix2 k d)) 6 a := by
  pointwise [k0_pay32]
  exact tri_sum lt h2 _ 6 a _ fun k => rfl

/-- Group 7's sums, 256 columns wide. -/
theorem pay34_at (v72 : FVec Ideal S512x256 .bf16) (lt : FVec Ideal S64x64 .bf16)
    (h2 : ∀ a k : Fin 64, lt (ix2 a k) = if k.val ≤ a.val then (1 : EReal) else 0) (a : Fin 64) (d : Fin 256) :
    k0_pay34 (F := Ideal) v72 lt (ix2 a d) = groupSum (fun k => v72 (ix2 k d)) 7 a := by
  pointwise [k0_pay34]
  exact tri_sum lt h2 _ 7 a _ fun k => rfl

end Cert.KernelIdeal.Own

end
-- ==== Proof.KernelIdealOwn.Rows.lean ====
module

public import proofs.«01_k».proof.Proof.KernelIdealOwn.Cums

/-!
# Denominator and numerator of one block

The rescaled old value plus the block's prefix sums, for each of the two batch rows, in the kernel's own composition.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

variable (v0 v2 : FVec Ideal S1x512x128 .f32) (v12 : FVec Ideal S128x128 .bf16) (v15 v29 : FVec Ideal S1x128 .f32) (lt : FVec Ideal S64x64 .bf16)
  (v5 v7 : FVec Ideal S512x1024 .bf16)

/-- The two rows' weights side by side, from the loads. -/
abbrev eCat : FVec Ideal S512x256 .bf16 :=
  k0_pay18 (k0_pay11 v0 v12 v15) (k0_pay12 v2 v12) v29 (k0_pay13 v2 v12)

/-- The two rows' weighted values side by side, from the loads. -/
abbrev evCat : FVec Ideal S512x2048 .bf16 :=
  k0_pay17 v5 v7 (k0_pay11 v0 v12 v15) (k0_pay12 v2 v12) v29 (k0_pay13 v2 v12)

/-- The denominator's first group. -/
abbrev dFirst : FVec Ideal S64x256 .f32 := k0_pay20 (k0_pay11 v0 v12 v15) (k0_pay12 v2 v12) v29 (k0_pay13 v2 v12) lt

/-- The numerator's first group. -/
abbrev nFirst : FVec Ideal S64x2048 .f32 := k0_pay19 v5 v7 (k0_pay11 v0 v12 v15) (k0_pay12 v2 v12) v29 (k0_pay13 v2 v12) lt

/-- The numerator's second group. -/
abbrev nSecond : FVec Ideal S64x2048 .f32 := k0_pay21 v5 v7 (k0_pay11 v0 v12 v15) (k0_pay12 v2 v12) v29 (k0_pay13 v2 v12) lt

/-- The weights' prefix sums as the kernel composes them from the groups. -/
abbrev dStack (p0 : FVec Ideal S64x256 .f32) (w : FVec Ideal S512x256 .bf16) : FVec Ideal S512x256 .f32 :=
  k0_pay58 p0 (k0_pay30 w lt) (k0_pay32 w lt) (k0_pay34 w lt)
    (k0_pay44 p0 (k0_pay22 w lt) (k0_pay24 w lt) (k0_pay26 w lt) (k0_pay28 w lt))
    (k0_pay46 p0 (k0_pay22 w lt) (k0_pay24 w lt) (k0_pay26 w lt) (k0_pay28 w lt) (k0_pay30 w lt))
    (k0_pay48 w p0 (k0_pay22 w lt) (k0_pay24 w lt) (k0_pay26 w lt) (k0_pay28 w lt) (k0_pay30 w lt) lt)
    (k0_pay50 p0 (k0_pay22 w lt)) (k0_pay52 p0 (k0_pay22 w lt) (k0_pay24 w lt))
    (k0_pay54 p0 (k0_pay22 w lt) (k0_pay24 w lt) (k0_pay26 w lt))
    (k0_pay56 p0 (k0_pay22 w lt) (k0_pay24 w lt) (k0_pay26 w lt) (k0_pay28 w lt))

/-- The weighted values' prefix sums as the kernel composes them from the groups. -/
abbrev nStack (p0 p1 : FVec Ideal S64x2048 .f32) (w : FVec Ideal S512x2048 .bf16) : FVec Ideal S512x2048 .f32 :=
  k0_pay57 p0 (k0_pay29 w lt) (k0_pay31 w lt) (k0_pay33 w lt)
    (k0_pay43 p0 p1 (k0_pay23 w lt) (k0_pay25 w lt) (k0_pay27 w lt))
    (k0_pay45 p0 p1 (k0_pay23 w lt) (k0_pay25 w lt) (k0_pay27 w lt) (k0_pay29 w lt))
    (k0_pay47 p0 p1 (k0_pay23 w lt) (k0_pay25 w lt) (k0_pay27 w lt) (k0_pay29 w lt) (k0_pay31 w lt))
    (k0_pay49 p0 p1) (k0_pay51 p0 p1 (k0_pay23 w lt)) (k0_pay53 p0 p1 (k0_pay23 w lt) (k0_pay25 w lt))
    (k0_pay55 p0 p1 (k0_pay23 w lt) (k0_pay25 w lt) (k0_pay27 w lt))

variable (h5 : ∀ a b : Fin 128, v12 (ix2 a b) = (1 : EReal))
  (h2 : ∀ a k : Fin 64, lt (ix2 a k) = if k.val ≤ a.val then (1 : EReal) else 0)

include h2 in
/-- The weights' prefix sums, read at a row. -/
theorem dStack_at (p0 : FVec Ideal S64x256 .f32) (w : FVec Ideal S512x256 .bf16)
    (h0 : ∀ (a : Fin 64) (d : Fin 256), p0 (ix2 a d) = groupSum (fun k => w (ix2 k d)) 0 a) (r : Fin 512) (d : Fin 256) :
    dStack lt p0 w (ix2 r d) = (∑ k : Fin 512, if k.val ≤ r.val then (w (ix2 k d) : EReal) else 0 : EReal) := by
  refine pay58_at p0 (k0_pay22 w lt) (k0_pay24 w lt) (k0_pay26 w lt) (k0_pay28 w lt) (k0_pay30 w lt) (k0_pay32 w lt)
    (k0_pay34 w lt) (fun d k => w (ix2 k d)) _ h0 (pay22_at w lt h2) (pay24_at w lt h2) (pay26_at w lt h2) (pay28_at w lt h2)
    (pay30_at w lt h2) (pay32_at w lt h2) (pay34_at w lt h2) (fun d => ?_) r d
  pointwise [k0_pay48, k0_pay46, k0_pay44, k0_pay42, k0_pay40, k0_pay38, k0_pay36, h0, pay22_at w lt h2, pay24_at w lt h2, pay26_at w lt h2, pay28_at w lt h2,
    pay30_at w lt h2, pay32_at w lt h2]
  rfl

include h2 in
/-- The weighted values' prefix sums, read at a row. -/
theorem nStack_at (p0 p1 : FVec Ideal S64x2048 .f32) (w : FVec Ideal S512x2048 .bf16)
    (h0 : ∀ (a : Fin 64) (d : Fin 2048), p0 (ix2 a d) = groupSum (fun k => w (ix2 k d)) 0 a)
    (h1 : ∀ (a : Fin 64) (d : Fin 2048), p1 (ix2 a d) = groupSum (fun k => w (ix2 k d)) 1 a) (r : Fin 512) (d : Fin 2048) :
    nStack lt p0 p1 w (ix2 r d) = (∑ k : Fin 512, if k.val ≤ r.val then (w (ix2 k d) : EReal) else 0 : EReal) :=
  pay57_at p0 p1 (k0_pay23 w lt) (k0_pay25 w lt) (k0_pay27 w lt) (k0_pay29 w lt) (k0_pay31 w lt)
    (k0_pay33 w lt) (fun d k => w (ix2 k d)) h0 h1 (pay23_at w lt h2) (pay25_at w lt h2) (pay27_at w lt h2)
    (pay29_at w lt h2) (pay31_at w lt h2) (pay33_at w lt h2) r d

include h5 h2 in
/-- The first row's denominators. -/
theorem den_fst (dold : FVec Ideal S1x128 .f32) (r : Fin 512) (l : Fin 128) :
    k0_pay59 (k0_pay10 v0 v12 v15) (dFirst v0 v2 v12 v15 v29 lt) (k0_pay30 (eCat v0 v2 v12 v15 v29) lt) (k0_pay32 (eCat v0 v2 v12 v15 v29) lt) (k0_pay34 (eCat v0 v2 v12 v15 v29) lt)
      (k0_pay44 (dFirst v0 v2 v12 v15 v29 lt) (k0_pay22 (eCat v0 v2 v12 v15 v29) lt) (k0_pay24 (eCat v0 v2 v12 v15 v29) lt) (k0_pay26 (eCat v0 v2 v12 v15 v29) lt) (k0_pay28 (eCat v0 v2 v12 v15 v29) lt))
      (k0_pay46 (dFirst v0 v2 v12 v15 v29 lt) (k0_pay22 (eCat v0 v2 v12 v15 v29) lt) (k0_pay24 (eCat v0 v2 v12 v15 v29) lt) (k0_pay26 (eCat v0 v2 v12 v15 v29) lt) (k0_pay28 (eCat v0 v2 v12 v15 v29) lt) (k0_pay30 (eCat v0 v2 v12 v15 v29) lt))
      (k0_pay48 (eCat v0 v2 v12 v15 v29) (dFirst v0 v2 v12 v15 v29 lt) (k0_pay22 (eCat v0 v2 v12 v15 v29) lt) (k0_pay24 (eCat v0 v2 v12 v15 v29) lt) (k0_pay26 (eCat v0 v2 v12 v15 v29) lt) (k0_pay28 (eCat v0 v2 v12 v15 v29) lt) (k0_pay30 (eCat v0 v2 v12 v15 v29) lt) lt)
      (k0_pay50 (dFirst v0 v2 v12 v15 v29 lt) (k0_pay22 (eCat v0 v2 v12 v15 v29) lt)) (k0_pay52 (dFirst v0 v2 v12 v15 v29 lt) (k0_pay22 (eCat v0 v2 v12 v15 v29) lt) (k0_pay24 (eCat v0 v2 v12 v15 v29) lt))
      (k0_pay54 (dFirst v0 v2 v12 v15 v29 lt) (k0_pay22 (eCat v0 v2 v12 v15 v29) lt) (k0_pay24 (eCat v0 v2 v12 v15 v29) lt) (k0_pay26 (eCat v0 v2 v12 v15 v29) lt))
      (k0_pay56 (dFirst v0 v2 v12 v15 v29 lt) (k0_pay22 (eCat v0 v2 v12 v15 v29) lt) (k0_pay24 (eCat v0 v2 v12 v15 v29) lt) (k0_pay26 (eCat v0 v2 v12 v15 v29) lt) (k0_pay28 (eCat v0 v2 v12 v15 v29) lt)) dold (ix2 r l)
      = denN (v15 (ix2 0 l)) (dold (ix2 0 l)) (rowSum v0) r := by
  have hs := dStack_at lt h2 (dFirst v0 v2 v12 v15 v29 lt) (eCat v0 v2 v12 v15 v29) (pay20_at _ _ _ _ lt h2) r ⟨l.val, by omega⟩
  refine Eq.trans (b := (dold (ix2 0 l) * (k0_pay10 v0 v12 v15 : FVec Ideal S1x128 .f32) (ix2 0 l)
    + dStack lt (dFirst v0 v2 v12 v15 v29 lt) (eCat v0 v2 v12 v15 v29) (ix2 r ⟨l.val, by omega⟩) : EReal)) ?_ ?_
  · generalize (k0_pay10 v0 v12 v15 : FVec Ideal S1x128 .f32) = A
    generalize dFirst v0 v2 v12 v15 v29 lt = p0
    generalize eCat v0 v2 v12 v15 v29 = w
    unfold k0_pay59 dStack
    pointwise
  · rw [hs, pay10_at v0 v12 v15 h5]
    unfold denN
    refine congrArg _ (Finset.sum_congr rfl fun k _ => ?_)
    unfold eCat
    rw [pay18_fst, pay11_at v0 v12 v15 h5]

include h5 h2 in
/-- The second row's denominators. -/
theorem den_snd (dold : FVec Ideal S1x128 .f32) (r : Fin 512) (l : Fin 128) :
    k0_pay74 (k0_pay15 v29 (k0_pay13 v2 v12)) (dStack lt (dFirst v0 v2 v12 v15 v29 lt) (eCat v0 v2 v12 v15 v29)) dold (ix2 r l)
      = denN (v29 (ix2 0 l)) (dold (ix2 0 l)) (rowSum v2) r := by
  have hs := dStack_at lt h2 (dFirst v0 v2 v12 v15 v29 lt) (eCat v0 v2 v12 v15 v29) (pay20_at _ _ _ _ lt h2) r ⟨128 + l.val, by omega⟩
  refine Eq.trans (b := (dold (ix2 0 l) * (k0_pay15 v29 (k0_pay13 v2 v12) : FVec Ideal S1x128 .f32) (ix2 0 l)
    + dStack lt (dFirst v0 v2 v12 v15 v29 lt) (eCat v0 v2 v12 v15 v29) (ix2 r ⟨128 + l.val, by omega⟩) : EReal)) ?_ ?_
  · generalize (k0_pay15 v29 (k0_pay13 v2 v12) : FVec Ideal S1x128 .f32) = A
    generalize dStack lt (dFirst v0 v2 v12 v15 v29 lt) (eCat v0 v2 v12 v15 v29) = w
    unfold k0_pay74
    pointwise
  · rw [hs, pay15_at v2 v12 v29 h5]
    unfold denN
    refine congrArg _ (Finset.sum_congr rfl fun k _ => ?_)
    unfold eCat
    rw [pay18_snd, pay16_at v2 v12 v29 h5]

/-- Eight rows of 128 columns side by side, each rescaled, read at a column. -/
theorem scaled_at (A n0 n1 n2 n3 n4 n5 n6 n7 : FVec Ideal S1x128 .f32) (no : Fin 1024 → EReal)
    (hn : ∀ (j : Fin 8) (l : Fin 128), (![n0, n1, n2, n3, n4, n5, n6, n7] : Fin 8 → S1x128.Idx → EReal) j (ix2 0 l)
      = no ⟨128 * j.val + l.val, by omega⟩) (d : Fin 1024) :
    concatenate S1x1024 1 [⟨S1x128, mulf n0 A⟩, ⟨S1x128, mulf n1 A⟩, ⟨S1x128, mulf n2 A⟩, ⟨S1x128, mulf n3 A⟩, ⟨S1x128, mulf n4 A⟩,
      ⟨S1x128, mulf n5 A⟩, ⟨S1x128, mulf n6 A⟩, ⟨S1x128, mulf n7 A⟩]
      concatenates_S1x128_S1x128_S1x128_S1x128_S1x128_S1x128_S1x128_S1x128_S1x1024_d1 (ix2 0 d)
      = (no d * A (ix2 0 ⟨d.val % 128, by omega⟩) : EReal) := by
  refine Eq.trans (Eq.trans ?_ (concatenate_ofFn_apply (t := S1x1024) (s₁ := S1x128) 1
    (![mulf n0 A, mulf n1 A, mulf n2 A, mulf n3 A, mulf n4 A, mulf n5 A, mulf n6 A, mulf n7 A] : Fin 8 → S1x128.Idx → Ideal .f32)
    concatenates_S1x128_S1x128_S1x128_S1x128_S1x128_S1x128_S1x128_S1x128_S1x1024_d1
    rfl 128 rfl (ix2 0 d) ⟨d.val / 128, by omega⟩ rfl (ix2 0 ⟨d.val % 128, by omega⟩) rfl (fun b hb => ?_))) ?_
  · rfl
  · fin_cases b
    · rfl
    · exact absurd rfl hb
  · have key : ∀ (j : Fin 8) (l : Fin 128), (![mulf n0 A, mulf n1 A, mulf n2 A, mulf n3 A, mulf n4 A, mulf n5 A, mulf n6 A, mulf n7 A] :
        Fin 8 → S1x128.Idx → Ideal .f32) j (ix2 0 l) = (no ⟨128 * j.val + l.val, by omega⟩ * A (ix2 0 l) : EReal) := fun j l => by
      rw [← hn j l]
      fin_cases j <;> rfl
    have h := key ⟨d.val / 128, by omega⟩ ⟨d.val % 128, by omega⟩
    simpa only [Nat.div_add_mod] using h

include h5 h2 in
/-- The first row's numerators. -/
theorem num_fst (n0 n1 n2 n3 n4 n5 n6 n7 : FVec Ideal S1x128 .f32) (no : Fin 1024 → EReal)
    (hn : ∀ (j : Fin 8) (l : Fin 128), (![n0, n1, n2, n3, n4, n5, n6, n7] : Fin 8 → S1x128.Idx → EReal) j (ix2 0 l)
      = no ⟨128 * j.val + l.val, by omega⟩) (r : Fin 512) (d : Fin 1024) :
    k0_pay61 (k0_pay10 v0 v12 v15) (nFirst v0 v2 v12 v15 v29 lt v5 v7) (k0_pay29 (evCat v0 v2 v12 v15 v29 v5 v7) lt) (k0_pay31 (evCat v0 v2 v12 v15 v29 v5 v7) lt) (k0_pay33 (evCat v0 v2 v12 v15 v29 v5 v7) lt)
      (k0_pay43 (nFirst v0 v2 v12 v15 v29 lt v5 v7) (nSecond v0 v2 v12 v15 v29 lt v5 v7) (k0_pay23 (evCat v0 v2 v12 v15 v29 v5 v7) lt) (k0_pay25 (evCat v0 v2 v12 v15 v29 v5 v7) lt) (k0_pay27 (evCat v0 v2 v12 v15 v29 v5 v7) lt))
      (k0_pay45 (nFirst v0 v2 v12 v15 v29 lt v5 v7) (nSecond v0 v2 v12 v15 v29 lt v5 v7) (k0_pay23 (evCat v0 v2 v12 v15 v29 v5 v7) lt) (k0_pay25 (evCat v0 v2 v12 v15 v29 v5 v7) lt) (k0_pay27 (evCat v0 v2 v12 v15 v29 v5 v7) lt) (k0_pay29 (evCat v0 v2 v12 v15 v29 v5 v7) lt))
      (k0_pay47 (nFirst v0 v2 v12 v15 v29 lt v5 v7) (nSecond v0 v2 v12 v15 v29 lt v5 v7) (k0_pay23 (evCat v0 v2 v12 v15 v29 v5 v7) lt) (k0_pay25 (evCat v0 v2 v12 v15 v29 v5 v7) lt) (k0_pay27 (evCat v0 v2 v12 v15 v29 v5 v7) lt) (k0_pay29 (evCat v0 v2 v12 v15 v29 v5 v7) lt) (k0_pay31 (evCat v0 v2 v12 v15 v29 v5 v7) lt))
      (k0_pay49 (nFirst v0 v2 v12 v15 v29 lt v5 v7) (nSecond v0 v2 v12 v15 v29 lt v5 v7)) (k0_pay51 (nFirst v0 v2 v12 v15 v29 lt v5 v7) (nSecond v0 v2 v12 v15 v29 lt v5 v7) (k0_pay23 (evCat v0 v2 v12 v15 v29 v5 v7) lt)) (k0_pay53 (nFirst v0 v2 v12 v15 v29 lt v5 v7) (nSecond v0 v2 v12 v15 v29 lt v5 v7) (k0_pay23 (evCat v0 v2 v12 v15 v29 v5 v7) lt) (k0_pay25 (evCat v0 v2 v12 v15 v29 v5 v7) lt))
      (k0_pay55 (nFirst v0 v2 v12 v15 v29 lt v5 v7) (nSecond v0 v2 v12 v15 v29 lt v5 v7) (k0_pay23 (evCat v0 v2 v12 v15 v29 v5 v7) lt) (k0_pay25 (evCat v0 v2 v12 v15 v29 v5 v7) lt) (k0_pay27 (evCat v0 v2 v12 v15 v29 v5 v7) lt)) n0 n1 n2 n3 n4 n5 n6 n7 (ix2 r d)
      = numN (v15 (ix2 0 ⟨d.val % 128, by omega⟩)) (no d) (rowSum v0) (fun k => v5 (ix2 k d)) r := by
  have hs := nStack_at lt h2 (nFirst v0 v2 v12 v15 v29 lt v5 v7) (nSecond v0 v2 v12 v15 v29 lt v5 v7) (evCat v0 v2 v12 v15 v29 v5 v7)
    (pay19_at _ _ _ _ _ _ lt h2) (pay21_at _ _ _ _ _ _ lt h2) r ⟨d.val, by omega⟩
  refine Eq.trans (b := (no d * (k0_pay10 v0 v12 v15 : FVec Ideal S1x128 .f32) (ix2 0 ⟨d.val % 128, by omega⟩)
    + nStack lt (nFirst v0 v2 v12 v15 v29 lt v5 v7) (nSecond v0 v2 v12 v15 v29 lt v5 v7) (evCat v0 v2 v12 v15 v29 v5 v7) (ix2 r ⟨d.val, by omega⟩) : EReal)) ?_ ?_
  · rw [← scaled_at (k0_pay10 v0 v12 v15) n0 n1 n2 n3 n4 n5 n6 n7 no hn d]
    generalize (k0_pay10 v0 v12 v15 : FVec Ideal S1x128 .f32) = A
    generalize nFirst v0 v2 v12 v15 v29 lt v5 v7 = p0
    generalize nSecond v0 v2 v12 v15 v29 lt v5 v7 = p1
    generalize evCat v0 v2 v12 v15 v29 v5 v7 = w
    unfold k0_pay61 nStack
    generalize concatenate S1x1024 1 _ _ = C
    pointwise
  · rw [hs, pay10_at v0 v12 v15 h5]
    unfold numN
    refine congrArg _ (Finset.sum_congr rfl fun k _ => ?_)
    unfold evCat
    rw [pay17_fst, pay11_at v0 v12 v15 h5]

include h5 h2 in
/-- The second row's numerators. -/
theorem num_snd (n0 n1 n2 n3 n4 n5 n6 n7 : FVec Ideal S1x128 .f32) (no : Fin 1024 → EReal)
    (hn : ∀ (j : Fin 8) (l : Fin 128), (![n0, n1, n2, n3, n4, n5, n6, n7] : Fin 8 → S1x128.Idx → EReal) j (ix2 0 l)
      = no ⟨128 * j.val + l.val, by omega⟩) (r : Fin 512) (d : Fin 1024) :
    k0_pay80 (k0_pay15 v29 (k0_pay13 v2 v12)) (nStack lt (nFirst v0 v2 v12 v15 v29 lt v5 v7) (nSecond v0 v2 v12 v15 v29 lt v5 v7) (evCat v0 v2 v12 v15 v29 v5 v7))
      (k0_pay76 (k0_pay15 v29 (k0_pay13 v2 v12)) n0) (k0_pay77 (k0_pay15 v29 (k0_pay13 v2 v12)) n1)
      (k0_pay78 (k0_pay15 v29 (k0_pay13 v2 v12)) n2) (k0_pay79 (k0_pay15 v29 (k0_pay13 v2 v12)) n3) n4 n5 n6 n7 (ix2 r d)
      = numN (v29 (ix2 0 ⟨d.val % 128, by omega⟩)) (no d) (rowSum v2) (fun k => v7 (ix2 k d)) r := by
  have hs := nStack_at lt h2 (nFirst v0 v2 v12 v15 v29 lt v5 v7) (nSecond v0 v2 v12 v15 v29 lt v5 v7) (evCat v0 v2 v12 v15 v29 v5 v7)
    (pay19_at _ _ _ _ _ _ lt h2) (pay21_at _ _ _ _ _ _ lt h2) r ⟨1024 + d.val, by omega⟩
  refine Eq.trans (b := (no d * (k0_pay15 v29 (k0_pay13 v2 v12) : FVec Ideal S1x128 .f32) (ix2 0 ⟨d.val % 128, by omega⟩)
    + nStack lt (nFirst v0 v2 v12 v15 v29 lt v5 v7) (nSecond v0 v2 v12 v15 v29 lt v5 v7) (evCat v0 v2 v12 v15 v29 v5 v7) (ix2 r ⟨1024 + d.val, by omega⟩) : EReal)) ?_ ?_
  · rw [← scaled_at (k0_pay15 v29 (k0_pay13 v2 v12)) n0 n1 n2 n3 n4 n5 n6 n7 no hn d]
    generalize (k0_pay15 v29 (k0_pay13 v2 v12) : FVec Ideal S1x128 .f32) = A
    generalize nStack lt (nFirst v0 v2 v12 v15 v29 lt v5 v7) (nSecond v0 v2 v12 v15 v29 lt v5 v7) (evCat v0 v2 v12 v15 v29 v5 v7) = w
    unfold k0_pay80 k0_pay76 k0_pay77 k0_pay78 k0_pay79
    generalize concatenate S1x1024 1 _ _ = C
    pointwise
  · rw [hs, pay15_at v2 v12 v29 h5]
    unfold numN
    refine congrArg _ (Finset.sum_congr rfl fun k _ => ?_)
    unfold evCat
    rw [pay17_snd, pay16_at v2 v12 v29 h5]

end Cert.KernelIdeal.Own

end
-- ==== Proof.KernelIdealOwn.Tails.lean ====
module

public import proofs.«01_k».proof.Proof.KernelIdealOwn.Rows

/-!
# What a block's stores hold

The stored pieces, read at an entry: a block of 128 columns of the numerators times the reciprocal of the denominators,
and the last rows kept for the next block.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

variable (nm : FVec Ideal S512x1024 .f32) (rc : FVec Ideal S512x128 .f32)

/-- Columns 0 to 127 of the first row's output. -/
theorem pay62_at (r : Fin 512) (l : Fin 128) :
    k0_pay62 rc nm (ix3 0 r l) = (nm (ix2 r ⟨0 + l.val, by omega⟩) * rc (ix2 r l) : EReal) := by
  pointwise [k0_pay62]

/-- Columns 128 to 255 of the first row's output. -/
theorem pay63_at (r : Fin 512) (l : Fin 128) :
    k0_pay63 rc nm (ix3 0 r l) = (nm (ix2 r ⟨128 + l.val, by omega⟩) * rc (ix2 r l) : EReal) := by
  pointwise [k0_pay63]

/-- Columns 256 to 383 of the first row's output. -/
theorem pay64_at (r : Fin 512) (l : Fin 128) :
    k0_pay64 rc nm (ix3 0 r l) = (nm (ix2 r ⟨256 + l.val, by omega⟩) * rc (ix2 r l) : EReal) := by
  pointwise [k0_pay64]

/-- Columns 384 to 511 of the first row's output. -/
theorem pay65_at (r : Fin 512) (l : Fin 128) :
    k0_pay65 rc nm (ix3 0 r l) = (nm (ix2 r ⟨384 + l.val, by omega⟩) * rc (ix2 r l) : EReal) := by
  pointwise [k0_pay65]

/-- Columns 512 to 639 of the first row's output. -/
theorem pay66_at (r : Fin 512) (l : Fin 128) :
    k0_pay66 rc nm (ix3 0 r l) = (nm (ix2 r ⟨512 + l.val, by omega⟩) * rc (ix2 r l) : EReal) := by
  pointwise [k0_pay66]

/-- Columns 640 to 767 of the first row's output. -/
theorem pay67_at (r : Fin 512) (l : Fin 128) :
    k0_pay67 rc nm (ix3 0 r l) = (nm (ix2 r ⟨640 + l.val, by omega⟩) * rc (ix2 r l) : EReal) := by
  pointwise [k0_pay67]

/-- Columns 896 to 1023 of the first row's output. -/
theorem pay70_at (r : Fin 512) (l : Fin 128) :
    k0_pay70 rc nm (ix3 0 r l) = (nm (ix2 r ⟨896 + l.val, by omega⟩) * rc (ix2 r l) : EReal) := by
  pointwise [k0_pay70]

/-- Columns 768 to 895 of the first row's output. -/
theorem pay69_at (r : Fin 512) (l : Fin 128) :
    k0_pay69 (k0_pay68 rc nm) (ix3 0 r l) = (nm (ix2 r ⟨768 + l.val, by omega⟩) * rc (ix2 r l) : EReal) := by
  pointwise [k0_pay69, k0_pay68]

/-- Columns 640 to 767 of the second row's output. -/
theorem pay87_at (r : Fin 512) (l : Fin 128) :
    k0_pay87 rc nm (ix3 0 r l) = (nm (ix2 r ⟨640 + l.val, by omega⟩) * rc (ix2 r l) : EReal) := by
  pointwise [k0_pay87]

/-- Columns 768 to 895 of the second row's output. -/
theorem pay88_at (r : Fin 512) (l : Fin 128) :
    k0_pay88 rc nm (ix3 0 r l) = (nm (ix2 r ⟨768 + l.val, by omega⟩) * rc (ix2 r l) : EReal) := by
  pointwise [k0_pay88]

/-- Columns 896 to 1023 of the second row's output. -/
theorem pay89_at (r : Fin 512) (l : Fin 128) :
    k0_pay89 rc nm (ix3 0 r l) = (nm (ix2 r ⟨896 + l.val, by omega⟩) * rc (ix2 r l) : EReal) := by
  pointwise [k0_pay89]

section
variable (v34 n0 n1 n2 n3 n4 n5 n6 n7 : FVec Ideal S1x128 .f32) (v175 : FVec Ideal S512x2048 .f32)

/-- Columns 0 to 127 of the second row's output. -/
theorem pay81_at (r : Fin 512) (l : Fin 128) :
    k0_pay81 v34 v175 rc n0 n1 n2 n3 n4 n5 n6 n7 (ix3 0 r l)
      = ((k0_pay80 v34 v175 n0 n1 n2 n3 n4 n5 n6 n7 : FVec Ideal S512x1024 .f32) (ix2 r ⟨0 + l.val, by omega⟩) * rc (ix2 r l) : EReal) := by
  unfold k0_pay81
  generalize (k0_pay80 v34 v175 n0 n1 n2 n3 n4 n5 n6 n7 : FVec Ideal S512x1024 .f32) = w
  pointwise

/-- Columns 128 to 255 of the second row's output. -/
theorem pay82_at (r : Fin 512) (l : Fin 128) :
    k0_pay82 v34 v175 rc n0 n1 n2 n3 n4 n5 n6 n7 (ix3 0 r l)
      = ((k0_pay80 v34 v175 n0 n1 n2 n3 n4 n5 n6 n7 : FVec Ideal S512x1024 .f32) (ix2 r ⟨128 + l.val, by omega⟩) * rc (ix2 r l) : EReal) := by
  unfold k0_pay82
  generalize (k0_pay80 v34 v175 n0 n1 n2 n3 n4 n5 n6 n7 : FVec Ideal S512x1024 .f32) = w
  pointwise

/-- Columns 256 to 383 of the second row's output. -/
theorem pay83_at (r : Fin 512) (l : Fin 128) :
    k0_pay83 v34 v175 rc n0 n1 n2 n3 n4 n5 n6 n7 (ix3 0 r l)
      = ((k0_pay80 v34 v175 n0 n1 n2 n3 n4 n5 n6 n7 : FVec Ideal S512x1024 .f32) (ix2 r ⟨256 + l.val, by omega⟩) * rc (ix2 r l) : EReal) := by
  unfold k0_pay83
  generalize (k0_pay80 v34 v175 n0 n1 n2 n3 n4 n5 n6 n7 : FVec Ideal S512x1024 .f32) = w
  pointwise

/-- Columns 384 to 511 of the second row's output. -/
theorem pay84_at (r : Fin 512) (l : Fin 128) :
    k0_pay84 v34 v175 rc n0 n1 n2 n3 n4 n5 n6 n7 (ix3 0 r l)
      = ((k0_pay80 v34 v175 n0 n1 n2 n3 n4 n5 n6 n7 : FVec Ideal S512x1024 .f32) (ix2 r ⟨384 + l.val, by omega⟩) * rc (ix2 r l) : EReal) := by
  unfold k0_pay84
  generalize (k0_pay80 v34 v175 n0 n1 n2 n3 n4 n5 n6 n7 : FVec Ideal S512x1024 .f32) = w
  pointwise

/-- Columns 512 to 639 of the second row's output. -/
theorem pay86_at (r : Fin 512) (l : Fin 128) :
    k0_pay86 (k0_pay85 v34 v175 rc n0 n1 n2 n3 n4 n5 n6 n7) (ix3 0 r l)
      = ((k0_pay80 v34 v175 n0 n1 n2 n3 n4 n5 n6 n7 : FVec Ideal S512x1024 .f32) (ix2 r ⟨512 + l.val, by omega⟩) * rc (ix2 r l) : EReal) := by
  unfold k0_pay86 k0_pay85
  generalize (k0_pay80 v34 v175 n0 n1 n2 n3 n4 n5 n6 n7 : FVec Ideal S512x1024 .f32) = w
  pointwise

end

/-- The first row's reciprocals. -/
theorem pay60_at (v20 : FVec Ideal S1x128 .f32) (v78 v108 v114 v120 : FVec Ideal S64x256 .f32) (v138 v142 v146 : FVec Ideal S1x256 .f32)
    (v150 v154 v158 v162 : FVec Ideal S64x256 .f32) (v177 : FVec Ideal S1x128 .f32) (i : S512x128.Idx) :
    k0_pay60 v20 v78 v108 v114 v120 v138 v142 v146 v150 v154 v158 v162 v177 i
      = (Ideal.div 1 ((k0_pay59 v20 v78 v108 v114 v120 v138 v142 v146 v150 v154 v158 v162 v177 : FVec Ideal S512x128 .f32) i) : EReal) := by
  unfold k0_pay60
  generalize (k0_pay59 v20 v78 v108 v114 v120 v138 v142 v146 v150 v154 v158 v162 v177 : FVec Ideal S512x128 .f32) = w
  pointwise

/-- The second row's reciprocals. -/
theorem pay75_at (v34 : FVec Ideal S1x128 .f32) (v176 : FVec Ideal S512x256 .f32) (v255 : FVec Ideal S1x128 .f32) (i : S512x128.Idx) :
    k0_pay75 v34 v176 v255 i = (Ideal.div 1 ((k0_pay74 v34 v176 v255 : FVec Ideal S512x128 .f32) i) : EReal) := by
  unfold k0_pay75
  generalize (k0_pay74 v34 v176 v255 : FVec Ideal S512x128 .f32) = w
  pointwise

/-- The first row's maxima, stored. -/
theorem pay71_at (v : FVec Ideal S1x128 .f32) (l : Fin 128) : k0_pay71 v (ix2 0 l) = v (ix2 0 l) := by pointwise [k0_pay71]

/-- The second row's maxima, stored. -/
theorem pay90_at (v : FVec Ideal S1x128 .f32) (l : Fin 128) : k0_pay90 v (ix2 0 l) = v (ix2 0 l) := by pointwise [k0_pay90]

/-- The first row's last denominators, stored. -/
theorem pay72_at (l : Fin 128) : k0_pay72 rc (ix2 0 l) = rc (ix2 511 l) := by pointwise [k0_pay72]

/-- The second row's last denominators, stored. -/
theorem pay91_at (l : Fin 128) : k0_pay91 rc (ix2 0 l) = rc (ix2 511 l) := by pointwise [k0_pay91]

/-- The first row's last numerators, stored. -/
theorem pay73_at (d : Fin 1024) : k0_pay73 nm (ix2 0 d) = nm (ix2 511 d) := by pointwise [k0_pay73]

/-- The second row's last numerators, stored. -/
theorem pay92_at (d : Fin 1024) : k0_pay92 nm (ix2 0 d) = nm (ix2 511 d) := by pointwise [k0_pay92]

/-- The first row's values, without the leading axis. -/
theorem pay3_at (v : FVec Ideal S1x512x1024 .bf16) (k : Fin 512) (d : Fin 1024) : k0_pay3 v (ix2 k d) = v (ix3 0 k d) := by
  pointwise [k0_pay3]

/-- The second row's values, without the leading axis. -/
theorem pay4_at (v : FVec Ideal S1x512x1024 .bf16) (k : Fin 512) (d : Fin 1024) : k0_pay4 v (ix2 k d) = v (ix3 0 k d) := by
  pointwise [k0_pay4]

end Cert.KernelIdeal.Own

end
-- ==== Proof.KernelIdealOwn.Scores.lean ====
module

public import proofs.«01_k».proof.Proof.KernelIdealOwn.Weights

/-!
# The scores of one block

The projection of the block's values through the hyperbolic tangent, weighted and gathered over eight groups of lanes.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

variable (v333 : FVec Ideal S2x512x1024 .f32) (v336 : FVec Ideal S1024x1024 .bf16) (v339 : FVec Ideal S1x1024 .f32)

/-- One hidden unit: the projection of one row of values, plus the offset, through the hyperbolic tangent. -/
def hidden (b : Fin 2) (r : Fin 512) (e : Fin 1024) : EReal :=
  Ideal.tanh ((∑ k : Fin 1024, v333 (ix3 b r k) * v336 (ix2 k e) : EReal) + v339 (ix2 0 e))

/-- The two rows of values, one below the other. -/
theorem pay93_at (b : Fin 2) (r : Fin 512) (k : Fin 1024) :
    (k0_pay93 v333 : FVec Ideal S1024x1024 .bf16) (ix2 ⟨b.val * 512 + r.val, by omega⟩ k) = v333 (ix3 b r k) := by
  pointwise [k0_pay93]

/-- The hidden units of both rows. -/
theorem pay95_at (b : Fin 2) (r : Fin 512) (e : Fin 1024) :
    (k0_pay95 (k0_pay93 v333) (k0_pay94 v336) v339 : FVec Ideal S1024x1024 .f32) (ix2 ⟨b.val * 512 + r.val, by omega⟩ e) = hidden v333 v336 v339 b r e := by
  unfold hidden
  have h := pay93_at v333 b r
  generalize (k0_pay93 v333 : FVec Ideal S1024x1024 .bf16) = w at h ⊢
  pointwise [k0_pay95, k0_pay94]
  simp only [h]

/-- The lane sums stored for the next point. -/
theorem pay1_at (q0 q1 q2 q3 q4 q5 q6 q7 : FVec Ideal S1x128 .f32) (q : Fin 8 → Fin 128 → EReal)
    (hq : ∀ (j : Fin 8) (l : Fin 128), (![q0, q1, q2, q3, q4, q5, q6, q7] : Fin 8 → S1x128.Idx → EReal) j (ix2 0 l) = q j l)
    (b : Fin 2) (r : Fin 512) (l : Fin 128) :
    (k0_pay1 (k0_pay95 (k0_pay93 v333) (k0_pay94 v336) v339)
      (k0_pay96 (k0_pay93 v333) (k0_pay94 v336) v339 q0 q1 q2 q3 q4 q5) (k0_pay97 (k0_pay93 v333) (k0_pay94 v336) v339) q6 q7 : FVec Ideal S2x512x128 .f32) (ix3 b r l)
      = ∑ j : Fin 8, hidden v333 v336 v339 b r ⟨j.val * 128 + l.val, by omega⟩ * q j l := by
  have h := pay95_at v333 v336 v339 b r
  simp only [Fin.sum_univ_eight, ← hq]
  unfold k0_pay96 k0_pay97
  generalize (k0_pay95 (k0_pay93 v333) (k0_pay94 v336) v339 : FVec Ideal S1024x1024 .f32) = w at h ⊢
  pointwise [k0_pay1]
  simp only [← h]

/-- The values kept for the next point. -/
theorem pay2_at (b : Fin 2) (r : Fin 512) (k : Fin 1024) :
    (k0_pay2 (k0_pay93 v333) : FVec Ideal S2x512x1024 .bf16) (ix3 b r k) = v333 (ix3 b r k) := by
  have h := pay93_at v333 b r k
  generalize (k0_pay93 v333 : FVec Ideal S1024x1024 .bf16) = w at h ⊢
  rw [← h]
  pointwise [k0_pay2]

end Cert.KernelIdeal.Own

end
-- ==== Proof.KernelIdealOwn.Next.lean ====
module

public import Idealize.ShloMosaic.Lib.Pipeline.ValueKit
public import proofs.«01_k».proof.Proof.KernelIdealOwn.Frame
public import proofs.«01_k».proof.Proof.KernelIdealOwn.Tails
public import proofs.«01_k».proof.Proof.KernelIdealOwn.Scores

/-!
# One grid point over the scratch

The next maximum, denominator, numerator and output of a point, as functions of what the scratch held.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

/-- Two stores that cover a buffer between them leave nothing of an earlier one. -/
theorem canon_first_two {s : Shape} {e : EltTy} (p q r : View.Piece (Elt Ideal) s e) (y : s.Idx)
    (h : ∃ pc ∈ [p, q], y ∈ pc.1.set) : View.canon [p, q, r] y = View.canon [p, q] y := by
  by_cases hp : y ∈ p.1.set
  · obtain ⟨x, rfl⟩ := p.1.exists_idx_of_mem hp
    exact ((View.canon_cons_emb p.1 p.2 [q, r] x).trans (View.canon_cons_emb p.1 p.2 [q] x).symm)
  · rw [View.canon_cons_of_not_mem p [q, r] hp, View.canon_cons_of_not_mem p [q] hp]
    obtain ⟨pc, hm, hy⟩ := h
    simp only [List.mem_cons, List.not_mem_nil, or_false] at hm
    rcases hm with rfl | rfl
    · exact absurd hy hp
    · obtain ⟨x, rfl⟩ := pc.1.exists_idx_of_mem hy
      exact ((View.canon_cons_emb pc.1 pc.2 [r] x).trans (View.canon_cons_emb pc.1 pc.2 [] x).symm)

/-- The running maxima a sequence starts from. -/
abbrev startM : Vec Ideal S2x128 .f32 := (k0_pay5 : FVec Ideal S2x128 .f32)

/-- The running denominators a sequence starts from. -/
abbrev startDen : Vec Ideal S2x128 .f32 := (k0_pay6 : FVec Ideal S2x128 .f32)

/-- The running numerators a sequence starts from. -/
abbrev startNum : Vec Ideal S2x1024 .f32 := (k0_pay7 : FVec Ideal S2x1024 .f32)

/-- A batch row's parked lane sums, gathered. -/
def rowS (s : Vec Ideal S2x512x128 .f32) (b : Fin 2) (r : Fin 512) : EReal := ∑ k : Fin 128, s (ix3 b r k)

/-- The maximum after the block. -/
def nextM (m : Vec Ideal S2x128 .f32) (s : Vec Ideal S2x512x128 .f32) (b : Fin 2) (l : Fin 128) : EReal :=
  mN (m (ix2 b l)) (rowS s b)

/-- The denominator after row `r` of the block. -/
def nextDen (m den : Vec Ideal S2x128 .f32) (s : Vec Ideal S2x512x128 .f32) (b : Fin 2) (l : Fin 128) (r : Fin 512) : EReal :=
  denN (m (ix2 b l)) (den (ix2 b l)) (rowS s b) r

/-- The numerator after row `r` of the block. -/
def nextNum (m : Vec Ideal S2x128 .f32) (num : Vec Ideal S2x1024 .f32) (s : Vec Ideal S2x512x128 .f32) (v : Vec Ideal S2x512x1024 .bf16)
    (b : Fin 2) (d : Fin 1024) (r : Fin 512) : EReal :=
  numN (m (ix2 b ⟨d.val % 128, by omega⟩)) (num (ix2 b d)) (rowS s b) (fun k => v (ix3 b k d)) r

/-- The output at row `r` of the block. -/
def nextOut (m den : Vec Ideal S2x128 .f32) (num : Vec Ideal S2x1024 .f32) (s : Vec Ideal S2x512x128 .f32) (v : Vec Ideal S2x512x1024 .bf16)
    (b : Fin 2) (r : Fin 512) (d : Fin 1024) : EReal :=
  nextNum m num s v b d r * Ideal.div 1 (nextDen m den s b ⟨d.val % 128, by omega⟩ r)

/-- Equal starts and scores give equal denominators. -/
theorem denN_congr {mo mo' d0 d0' : EReal} {S S' : Fin 512 → EReal} {r r' : Fin 512} (h1 : mo = mo') (h2 : d0 = d0') (h3 : S = S')
    (h4 : r = r') : denN mo d0 S r = denN mo' d0' S' r' := by subst h1 h2 h3 h4; rfl

/-- Equal starts, scores and values give equal numerators. -/
theorem numN_congr {mo mo' n0 n0' : EReal} {S S' V V' : Fin 512 → EReal} {r r' : Fin 512} (h1 : mo = mo') (h2 : n0 = n0') (h3 : S = S')
    (h4 : V = V') (h5 : r = r') : numN mo n0 S V r = numN mo' n0' S' V' r' := by subst h1 h2 h3 h4 h5; rfl

/-- An output entry from its numerator and denominator, the column given by its group of lanes. -/
theorem out_close {m den : Vec Ideal S2x128 .f32} {num : Vec Ideal S2x1024 .f32} {s : Vec Ideal S2x512x128 .f32}
    {v : Vec Ideal S2x512x1024 .bf16} {b : Fin 2} {r : Fin 512} {d : Fin 1024} {l : Fin 128} {N D : EReal} (hl : d.val % 128 = l.val)
    (h1 : N = nextNum m num s v b d r) (h2 : D = nextDen m den s b l r) :
    N * Ideal.div 1 D = nextOut m den num s v b r d := by
  subst h1 h2
  unfold nextOut
  rw [show (⟨d.val % 128, by omega⟩ : Fin 128) = l from Fin.ext hl]

end Cert.KernelIdeal.Own

end
-- ==== Proof.KernelIdealOwn.Kept.lean ====
module

public import proofs.«01_k».proof.Proof.Prefix
public import proofs.«01_k».proof.Proof.KernelIdealOwn.Next

/-!
# What the running state means

After `n` rows of a batch the three running buffers hold a real maximum and the weighted sums of those rows under it. One
block carries this 512 rows on, and writes the prefix averages of its rows.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

/-- After `n` rows with scores `sc` and values `va`: a real maximum in every lane, and under it the sums of the weights and
    of the weighted values. -/
def Kept (sc : Fin 2 → ℕ → ℝ) (va : Fin 2 → Fin 1024 → ℕ → EReal) (n : ℕ)
    (m den : Vec Ideal S2x128 .f32) (num : Vec Ideal S2x1024 .f32) : Prop :=
  ∀ (b : Fin 2) (l : Fin 128), ∃ M : ℝ, m (ix2 b l) = (M : EReal) ∧ den (ix2 b l) = wSum (sc b) (fun _ => 1) M n
    ∧ ∀ d : Fin 1024, d.val % 128 = l.val → num (ix2 b d) = wSum (sc b) (va b d) M n

variable (sc : Fin 2 → ℕ → ℝ) (va : Fin 2 → Fin 1024 → ℕ → EReal)

/-- The state a sequence starts from is that of no rows. -/
theorem kept_start : Kept sc va 0 startM startDen startNum := fun b l => by
  obtain ⟨M, hM⟩ := ofBits_start
  refine ⟨M, ?_, ?_, fun d _ => ?_⟩
  · unfold startM; pointwise [k0_pay5]; exact hM
  · unfold startDen wSum; rw [Finset.range_zero, Finset.sum_empty]; pointwise [k0_pay6]
  · unfold startNum wSum; rw [Finset.range_zero, Finset.sum_empty]; pointwise [k0_pay7]

variable {sc va} {n : ℕ} {m den : Vec Ideal S2x128 .f32} {num : Vec Ideal S2x1024 .f32}
  {s : Vec Ideal S2x512x128 .f32} {v : Vec Ideal S2x512x1024 .bf16}
  (hs : ∀ b r, rowS s b r = ((sc b (n + r.val) : ℝ) : EReal)) (hv : ∀ b (r : Fin 512) d, v (ix3 b r d) = va b d (n + r.val))

include hs hv

/-- One block carries the state 512 rows on. -/
theorem kept_next (h : Kept sc va n m den num) {m' den' : Vec Ideal S2x128 .f32} {num' : Vec Ideal S2x1024 .f32}
    (hm : ∀ b l, m' (ix2 b l) = nextM m s b l) (hd : ∀ b l, den' (ix2 b l) = nextDen m den s b l 511)
    (hn : ∀ b d, num' (ix2 b d) = nextNum m num s v b d 511) : Kept sc va (n + 512) m' den' num' := fun b l => by
  obtain ⟨M, h1, h2, h3⟩ := h b l
  obtain ⟨M', hM'⟩ := mN_coe (sc b) M n (rowS s b) (hs b)
  refine ⟨M', ?_, ?_, fun d e => ?_⟩
  · rw [hm]; unfold nextM; rw [h1, hM']
  · rw [hd]; unfold nextDen; rw [h1, h2]
    exact denN_eq (sc b) M M' n _ (hs b) hM' 511
  · rw [hn]; unfold nextNum
    rw [h3 d e, show (⟨d.val % 128, _⟩ : Fin 128) = l from Fin.ext e, h1]
    exact numN_eq (sc b) (va b d) M M' n _ _ (hs b) (fun r => hv b r d) hM' 511

/-- One block writes the prefix averages of its rows. -/
theorem out_next (h : Kept sc va n m den num) (b : Fin 2) (r : Fin 512) (d : Fin 1024) :
    nextOut m den num s v b r d
      = Ideal.div (wSum (sc b) (va b d) 0 (n + r.val + 1)) (wSum (sc b) (fun _ => 1) 0 (n + r.val + 1)) := by
  obtain ⟨M, h1, h2, h3⟩ := h b ⟨d.val % 128, Nat.mod_lt _ (by decide)⟩
  obtain ⟨M', hM'⟩ := mN_coe (sc b) M n (rowS s b) (hs b)
  unfold nextOut nextNum nextDen
  rw [h1, h2, h3 d rfl, denN_eq (sc b) M M' n _ (hs b) hM' r,
    numN_eq (sc b) (va b d) M M' n _ _ (hs b) (fun r => hv b r d) hM' r]
  exact quotient_eq (sc b) (va b d) M' 0 (n + r.val)

end Cert.KernelIdeal.Own

end
-- ==== Proof.KernelIdealOwn.LeftA.lean ====
module

public import proofs.«01_k».proof.Proof.KernelIdealOwn.Next
public import Idealize.ShloMosaic.Lib.Pipeline.ReadBack
public import Idealize.ShloMosaic.Lib.Pipeline.ValueKit

/-!
# The contents a point leaves, case A

What the stores of a point leave in the output and the scratch, read entry by entry: the first block of a sequence, where the running values start over.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

variable (c : Dev nD) (t : Fin cfg0.N) (x : Blk Ideal) (σ : Scr Ideal) (hc : first (grid0.coords t))
  (hones : ∀ a b : Fin 128, x.x5 (ix2 a b) = (1 : EReal))
  (hlt : ∀ a k : Fin 64, x.x2 (ix2 a k) = if k.val ≤ a.val then (1 : EReal) else 0)

include hones in
/-- The maximum left. -/
theorem mA_at (b : Fin 2) (d : Fin 128) : mA c t x σ hc (ix2 b d) = nextM startM σ.s b d := by
  unfold mA pcsA runA; dsimp only; frame_out
  simp (disch := decide) only [↓View.readCov_skip, read_unread_whole, View.readCov_fill]
  refine Eq.trans (canon_first_two _ _ _ _ ?cov) ?_
  case cov => exact View.cover_of_tiledL (s := S2x128) _ S1x128.size (by sl_kernel_rfl) _
  unfold startM
  generalize (k0_pay5 : FVec Ideal S2x128 .f32) = w5
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay90_at _ d).trans ((pay14_at _ _ _ hones d).trans (congrArg₂ mN (by pointwise) (funext fun r => Finset.sum_congr rfl fun k _ => by pointwise)))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay71_at _ d).trans ((pay9_at _ _ _ hones d).trans (congrArg₂ mN (by pointwise) (funext fun r => Finset.sum_congr rfl fun k _ => by pointwise)))

include hones hlt in
/-- The denominator left. -/
theorem denA_at (b : Fin 2) (d : Fin 128) : denA c t x σ hc (ix2 b d) = nextDen startM startDen σ.s b d 511 := by
  unfold denA pcsA runA; dsimp only; frame_out
  simp (disch := decide) only [↓View.readCov_skip, read_unread_whole, View.readCov_fill]
  refine Eq.trans (canon_first_two _ _ _ _ ?cov) ?_
  case cov => exact View.cover_of_tiledL (s := S2x128) _ S1x128.size (by sl_kernel_rfl) _
  unfold startM startDen
  generalize (k0_pay5 : FVec Ideal S2x128 .f32) = w5
  generalize (k0_pay6 : FVec Ideal S2x128 .f32) = w6
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay91_at _ d).trans ((den_snd _ _ _ _ _ _ hones hlt _ 511 d).trans
      (denN_congr (by pointwise) (by pointwise) (funext fun r => Finset.sum_congr rfl fun k _ => by pointwise) rfl))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay72_at _ d).trans ((den_fst _ _ _ _ _ _ hones hlt _ 511 d).trans
      (denN_congr (by pointwise) (by pointwise) (funext fun r => Finset.sum_congr rfl fun k _ => by pointwise) rfl))

set_option maxHeartbeats 2000000 in
include hones hlt in
/-- The output left. -/
theorem outA_at (b : Fin 2) (r : Fin 512) (d : Fin 1024) :
    outA c t x σ hc (ix3 b r d) = nextOut startM startDen startNum σ.s σ.v b r d := by
  unfold outA pcsA runA; dsimp only; frame_out
  simp (disch := decide) only [↓View.readCov_skip, read_unread_whole, View.readCov_fill]
  unfold startM startDen startNum
  generalize (k0_pay5 : FVec Ideal S2x128 .f32) = w5
  generalize (k0_pay6 : FVec Ideal S2x128 .f32) = w6
  generalize (k0_pay7 : FVec Ideal S2x1024 .f32) = w7
  canon_tiles z h
  · obtain rfl : b = 1 := Fin.ext (by have e : b.val = _ := h0; simp only [Fin.isValue] at e; omega)
    generalize hl : (⟨(z 2).val, z2_lt⟩ : Fin 128) = l
    obtain rfl : d = ⟨896 + l.val, by clear * - l; omega⟩ := Fin.ext (by have e : d.val = _ := h2; subst hl; show d.val = 896 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay89_at _ _ r l).trans ((congrArg (fun w : EReal => (_ : EReal) * w) (pay75_at _ _ _ _)).trans (out_close
      (by show (896 + l.val) % 128 = l.val; omega)
      ((num_snd _ _ _ _ _ _ _ _ hones hlt _ _ _ _ _ _ _ _ (fun d => w7 (ix2 1 d)) (fun j l => by fin_cases j <;> pointwise) r ⟨896 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨768 + l.val, by clear * - l; omega⟩ := Fin.ext (by have e : d.val = _ := h2; subst hl; show d.val = 768 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay88_at _ _ r l).trans ((congrArg (fun w : EReal => (_ : EReal) * w) (pay75_at _ _ _ _)).trans (out_close
      (by show (768 + l.val) % 128 = l.val; omega)
      ((num_snd _ _ _ _ _ _ _ _ hones hlt _ _ _ _ _ _ _ _ (fun d => w7 (ix2 1 d)) (fun j l => by fin_cases j <;> pointwise) r ⟨768 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨640 + l.val, by clear * - l; omega⟩ := Fin.ext (by have e : d.val = _ := h2; subst hl; show d.val = 640 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay87_at _ _ r l).trans ((congrArg (fun w : EReal => (_ : EReal) * w) (pay75_at _ _ _ _)).trans (out_close
      (by show (640 + l.val) % 128 = l.val; omega)
      ((num_snd _ _ _ _ _ _ _ _ hones hlt _ _ _ _ _ _ _ _ (fun d => w7 (ix2 1 d)) (fun j l => by fin_cases j <;> pointwise) r ⟨640 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨512 + l.val, by clear * - l; omega⟩ := Fin.ext (by have e : d.val = _ := h2; subst hl; show d.val = 512 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay86_at _ _ _ _ _ _ _ _ _ _ _ r l).trans ((congrArg (fun w : EReal => (_ : EReal) * w) (pay75_at _ _ _ _)).trans (out_close
      (by show (512 + l.val) % 128 = l.val; omega)
      ((num_snd _ _ _ _ _ _ _ _ hones hlt _ _ _ _ _ _ _ _ (fun d => w7 (ix2 1 d)) (fun j l => by fin_cases j <;> pointwise) r ⟨512 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨384 + l.val, by clear * - l; omega⟩ := Fin.ext (by have e : d.val = _ := h2; subst hl; show d.val = 384 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay84_at _ _ _ _ _ _ _ _ _ _ _ r l).trans ((congrArg (fun w : EReal => (_ : EReal) * w) (pay75_at _ _ _ _)).trans (out_close
      (by show (384 + l.val) % 128 = l.val; omega)
      ((num_snd _ _ _ _ _ _ _ _ hones hlt _ _ _ _ _ _ _ _ (fun d => w7 (ix2 1 d)) (fun j l => by fin_cases j <;> pointwise) r ⟨384 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨256 + l.val, by clear * - l; omega⟩ := Fin.ext (by have e : d.val = _ := h2; subst hl; show d.val = 256 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay83_at _ _ _ _ _ _ _ _ _ _ _ r l).trans ((congrArg (fun w : EReal => (_ : EReal) * w) (pay75_at _ _ _ _)).trans (out_close
      (by show (256 + l.val) % 128 = l.val; omega)
      ((num_snd _ _ _ _ _ _ _ _ hones hlt _ _ _ _ _ _ _ _ (fun d => w7 (ix2 1 d)) (fun j l => by fin_cases j <;> pointwise) r ⟨256 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨128 + l.val, by clear * - l; omega⟩ := Fin.ext (by have e : d.val = _ := h2; subst hl; show d.val = 128 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay82_at _ _ _ _ _ _ _ _ _ _ _ r l).trans ((congrArg (fun w : EReal => (_ : EReal) * w) (pay75_at _ _ _ _)).trans (out_close
      (by show (128 + l.val) % 128 = l.val; omega)
      ((num_snd _ _ _ _ _ _ _ _ hones hlt _ _ _ _ _ _ _ _ (fun d => w7 (ix2 1 d)) (fun j l => by fin_cases j <;> pointwise) r ⟨128 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨0 + l.val, by clear * - l; omega⟩ := Fin.ext (by have e : d.val = _ := h2; subst hl; show d.val = 0 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay81_at _ _ _ _ _ _ _ _ _ _ _ r l).trans ((congrArg (fun w : EReal => (_ : EReal) * w) (pay75_at _ _ _ _)).trans (out_close
      (by show (0 + l.val) % 128 = l.val; omega)
      ((num_snd _ _ _ _ _ _ _ _ hones hlt _ _ _ _ _ _ _ _ (fun d => w7 (ix2 1 d)) (fun j l => by fin_cases j <;> pointwise) r ⟨0 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨896 + l.val, by clear * - l; omega⟩ := Fin.ext (by have e : d.val = _ := h2; subst hl; show d.val = 896 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay70_at _ _ r l).trans ((congrArg (fun w : EReal => (_ : EReal) * w) (pay60_at _ _ _ _ _ _ _ _ _ _ _ _ _ _)).trans (out_close
      (by show (896 + l.val) % 128 = l.val; omega)
      ((num_fst _ _ _ _ _ _ _ _ hones hlt _ _ _ _ _ _ _ _ (fun d => w7 (ix2 0 d)) (fun j l => by fin_cases j <;> pointwise) r ⟨896 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨768 + l.val, by clear * - l; omega⟩ := Fin.ext (by have e : d.val = _ := h2; subst hl; show d.val = 768 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay69_at _ _ r l).trans ((congrArg (fun w : EReal => (_ : EReal) * w) (pay60_at _ _ _ _ _ _ _ _ _ _ _ _ _ _)).trans (out_close
      (by show (768 + l.val) % 128 = l.val; omega)
      ((num_fst _ _ _ _ _ _ _ _ hones hlt _ _ _ _ _ _ _ _ (fun d => w7 (ix2 0 d)) (fun j l => by fin_cases j <;> pointwise) r ⟨768 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨640 + l.val, by clear * - l; omega⟩ := Fin.ext (by have e : d.val = _ := h2; subst hl; show d.val = 640 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay67_at _ _ r l).trans ((congrArg (fun w : EReal => (_ : EReal) * w) (pay60_at _ _ _ _ _ _ _ _ _ _ _ _ _ _)).trans (out_close
      (by show (640 + l.val) % 128 = l.val; omega)
      ((num_fst _ _ _ _ _ _ _ _ hones hlt _ _ _ _ _ _ _ _ (fun d => w7 (ix2 0 d)) (fun j l => by fin_cases j <;> pointwise) r ⟨640 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨512 + l.val, by clear * - l; omega⟩ := Fin.ext (by have e : d.val = _ := h2; subst hl; show d.val = 512 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay66_at _ _ r l).trans ((congrArg (fun w : EReal => (_ : EReal) * w) (pay60_at _ _ _ _ _ _ _ _ _ _ _ _ _ _)).trans (out_close
      (by show (512 + l.val) % 128 = l.val; omega)
      ((num_fst _ _ _ _ _ _ _ _ hones hlt _ _ _ _ _ _ _ _ (fun d => w7 (ix2 0 d)) (fun j l => by fin_cases j <;> pointwise) r ⟨512 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨384 + l.val, by clear * - l; omega⟩ := Fin.ext (by have e : d.val = _ := h2; subst hl; show d.val = 384 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay65_at _ _ r l).trans ((congrArg (fun w : EReal => (_ : EReal) * w) (pay60_at _ _ _ _ _ _ _ _ _ _ _ _ _ _)).trans (out_close
      (by show (384 + l.val) % 128 = l.val; omega)
      ((num_fst _ _ _ _ _ _ _ _ hones hlt _ _ _ _ _ _ _ _ (fun d => w7 (ix2 0 d)) (fun j l => by fin_cases j <;> pointwise) r ⟨384 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨256 + l.val, by clear * - l; omega⟩ := Fin.ext (by have e : d.val = _ := h2; subst hl; show d.val = 256 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay64_at _ _ r l).trans ((congrArg (fun w : EReal => (_ : EReal) * w) (pay60_at _ _ _ _ _ _ _ _ _ _ _ _ _ _)).trans (out_close
      (by show (256 + l.val) % 128 = l.val; omega)
      ((num_fst _ _ _ _ _ _ _ _ hones hlt _ _ _ _ _ _ _ _ (fun d => w7 (ix2 0 d)) (fun j l => by fin_cases j <;> pointwise) r ⟨256 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨128 + l.val, by clear * - l; omega⟩ := Fin.ext (by have e : d.val = _ := h2; subst hl; show d.val = 128 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay63_at _ _ r l).trans ((congrArg (fun w : EReal => (_ : EReal) * w) (pay60_at _ _ _ _ _ _ _ _ _ _ _ _ _ _)).trans (out_close
      (by show (128 + l.val) % 128 = l.val; omega)
      ((num_fst _ _ _ _ _ _ _ _ hones hlt _ _ _ _ _ _ _ _ (fun d => w7 (ix2 0 d)) (fun j l => by fin_cases j <;> pointwise) r ⟨128 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨0 + l.val, by clear * - l; omega⟩ := Fin.ext (by have e : d.val = _ := h2; subst hl; show d.val = 0 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay62_at _ _ r l).trans ((congrArg (fun w : EReal => (_ : EReal) * w) (pay60_at _ _ _ _ _ _ _ _ _ _ _ _ _ _)).trans (out_close
      (by show (0 + l.val) % 128 = l.val; omega)
      ((num_fst _ _ _ _ _ _ _ _ hones hlt _ _ _ _ _ _ _ _ (fun d => w7 (ix2 0 d)) (fun j l => by fin_cases j <;> pointwise) r ⟨0 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))

include hones hlt in
/-- The numerator left. -/
theorem numA_at (b : Fin 2) (d : Fin 1024) : numA c t x σ hc (ix2 b d) = nextNum startM startNum σ.s σ.v b d 511 := by
  unfold numA pcsA runA; dsimp only; frame_out
  simp (disch := decide) only [↓View.readCov_skip, read_unread_whole, View.readCov_fill]
  refine Eq.trans (canon_first_two _ _ _ _ ?cov) ?_
  case cov => exact View.cover_of_tiledL (s := S2x1024) _ S1x1024.size (by sl_kernel_rfl) _
  unfold startM startNum
  generalize (k0_pay5 : FVec Ideal S2x128 .f32) = w5
  generalize (k0_pay7 : FVec Ideal S2x1024 .f32) = w7
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay92_at _ d).trans ((num_snd _ _ _ _ _ _ _ _ hones hlt _ _ _ _ _ _ _ _ (fun d => w7 (ix2 1 d)) (fun j l => by
        fin_cases j <;> pointwise) 511 d).trans
      (numN_congr (by pointwise) rfl (funext fun r => Finset.sum_congr rfl fun k _ => by pointwise) (funext fun k => (pay4_at _ k d).trans (by pointwise)) rfl))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay73_at _ d).trans ((num_fst _ _ _ _ _ _ _ _ hones hlt _ _ _ _ _ _ _ _ (fun d => w7 (ix2 0 d)) (fun j l => by
        fin_cases j <;> pointwise) 511 d).trans
      (numN_congr (by pointwise) rfl (funext fun r => Finset.sum_congr rfl fun k _ => by pointwise) (funext fun k => (pay3_at _ k d).trans (by pointwise)) rfl))

/-- The lane sums left. -/
theorem sA_at (b : Fin 2) (r : Fin 512) (l : Fin 128) : sA c t x σ hc (ix3 b r l)
    = ∑ j : Fin 8, hidden x.x0 x.x1 x.x3 b r ⟨j.val * 128 + l.val, by omega⟩ * x.x4 (ix2 j l) := by
  unfold sA pcsA runA; dsimp only; frame_out
  exact pay1_at _ _ _ _ _ _ _ _ _ _ _ (fun j l => x.x4 (ix2 j l)) (fun j l => by fin_cases j <;> pointwise) b r l

/-- The values left. -/
theorem vA_at (b : Fin 2) (r : Fin 512) (d : Fin 1024) : vA c t x σ hc (ix3 b r d) = x.x0 (ix3 b r d) := by
  unfold vA pcsA runA; dsimp only; frame_out
  exact pay2_at _ b r d

end Cert.KernelIdeal.Own

end
-- ==== Proof.KernelIdealOwn.LeftB.lean ====
module

public import proofs.«01_k».proof.Proof.KernelIdealOwn.Next
public import Idealize.ShloMosaic.Lib.Pipeline.ReadBack
public import Idealize.ShloMosaic.Lib.Pipeline.ValueKit

/-!
# The contents a point leaves, case B

What the stores of a point leave in the output and the scratch, read entry by entry: a later block of a sequence.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax

variable (c : Dev nD) (t : Fin cfg0.N) (x : Blk Ideal) (σ : Scr Ideal) (hc : ¬first (grid0.coords t))
  (hones : ∀ a b : Fin 128, x.x5 (ix2 a b) = (1 : EReal))
  (hlt : ∀ a k : Fin 64, x.x2 (ix2 a k) = if k.val ≤ a.val then (1 : EReal) else 0)

include hones in
/-- The maximum left. -/
theorem mB_at (b : Fin 2) (d : Fin 128) : mB c t x σ hc (ix2 b d) = nextM σ.m σ.s b d := by
  unfold mB pcsB runB; dsimp only; frame_out
  simp only [read_unread_whole]
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay90_at _ d).trans ((pay14_at _ _ _ hones d).trans (congrArg₂ mN (by pointwise) (funext fun r => Finset.sum_congr rfl fun k _ => by pointwise)))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay71_at _ d).trans ((pay9_at _ _ _ hones d).trans (congrArg₂ mN (by pointwise) (funext fun r => Finset.sum_congr rfl fun k _ => by pointwise)))

include hones hlt in
/-- The denominator left. -/
theorem denB_at (b : Fin 2) (d : Fin 128) : denB c t x σ hc (ix2 b d) = nextDen σ.m σ.den σ.s b d 511 := by
  unfold denB pcsB runB; dsimp only; frame_out
  simp only [read_unread_whole]
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay91_at _ d).trans ((den_snd _ _ _ _ _ _ hones hlt _ 511 d).trans
      (denN_congr (by pointwise) (by pointwise) (funext fun r => Finset.sum_congr rfl fun k _ => by pointwise) rfl))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay72_at _ d).trans ((den_fst _ _ _ _ _ _ hones hlt _ 511 d).trans
      (denN_congr (by pointwise) (by pointwise) (funext fun r => Finset.sum_congr rfl fun k _ => by pointwise) rfl))

set_option maxHeartbeats 2000000 in
include hones hlt in
/-- The output left. -/
theorem outB_at (b : Fin 2) (r : Fin 512) (d : Fin 1024) :
    outB c t x σ hc (ix3 b r d) = nextOut σ.m σ.den σ.num σ.s σ.v b r d := by
  unfold outB pcsB runB; dsimp only; frame_out
  simp only [read_unread_whole]
  canon_tiles z h
  · obtain rfl : b = 1 := Fin.ext (by have e : b.val = _ := h0; simp only [Fin.isValue] at e; omega)
    generalize hl : (⟨(z 2).val, z2_lt⟩ : Fin 128) = l
    obtain rfl : d = ⟨896 + l.val, by clear * - l; omega⟩ := Fin.ext (by have e : d.val = _ := h2; subst hl; show d.val = 896 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay89_at _ _ r l).trans ((congrArg (fun w : EReal => (_ : EReal) * w) (pay75_at _ _ _ _)).trans (out_close
      (by show (896 + l.val) % 128 = l.val; omega)
      ((num_snd _ _ _ _ _ _ _ _ hones hlt _ _ _ _ _ _ _ _ (fun d => σ.num (ix2 1 d)) (fun j l => by fin_cases j <;> pointwise) r ⟨896 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨768 + l.val, by clear * - l; omega⟩ := Fin.ext (by have e : d.val = _ := h2; subst hl; show d.val = 768 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay88_at _ _ r l).trans ((congrArg (fun w : EReal => (_ : EReal) * w) (pay75_at _ _ _ _)).trans (out_close
      (by show (768 + l.val) % 128 = l.val; omega)
      ((num_snd _ _ _ _ _ _ _ _ hones hlt _ _ _ _ _ _ _ _ (fun d => σ.num (ix2 1 d)) (fun j l => by fin_cases j <;> pointwise) r ⟨768 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨640 + l.val, by clear * - l; omega⟩ := Fin.ext (by have e : d.val = _ := h2; subst hl; show d.val = 640 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay87_at _ _ r l).trans ((congrArg (fun w : EReal => (_ : EReal) * w) (pay75_at _ _ _ _)).trans (out_close
      (by show (640 + l.val) % 128 = l.val; omega)
      ((num_snd _ _ _ _ _ _ _ _ hones hlt _ _ _ _ _ _ _ _ (fun d => σ.num (ix2 1 d)) (fun j l => by fin_cases j <;> pointwise) r ⟨640 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨512 + l.val, by clear * - l; omega⟩ := Fin.ext (by have e : d.val = _ := h2; subst hl; show d.val = 512 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay86_at _ _ _ _ _ _ _ _ _ _ _ r l).trans ((congrArg (fun w : EReal => (_ : EReal) * w) (pay75_at _ _ _ _)).trans (out_close
      (by show (512 + l.val) % 128 = l.val; omega)
      ((num_snd _ _ _ _ _ _ _ _ hones hlt _ _ _ _ _ _ _ _ (fun d => σ.num (ix2 1 d)) (fun j l => by fin_cases j <;> pointwise) r ⟨512 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨384 + l.val, by clear * - l; omega⟩ := Fin.ext (by have e : d.val = _ := h2; subst hl; show d.val = 384 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay84_at _ _ _ _ _ _ _ _ _ _ _ r l).trans ((congrArg (fun w : EReal => (_ : EReal) * w) (pay75_at _ _ _ _)).trans (out_close
      (by show (384 + l.val) % 128 = l.val; omega)
      ((num_snd _ _ _ _ _ _ _ _ hones hlt _ _ _ _ _ _ _ _ (fun d => σ.num (ix2 1 d)) (fun j l => by fin_cases j <;> pointwise) r ⟨384 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨256 + l.val, by clear * - l; omega⟩ := Fin.ext (by have e : d.val = _ := h2; subst hl; show d.val = 256 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay83_at _ _ _ _ _ _ _ _ _ _ _ r l).trans ((congrArg (fun w : EReal => (_ : EReal) * w) (pay75_at _ _ _ _)).trans (out_close
      (by show (256 + l.val) % 128 = l.val; omega)
      ((num_snd _ _ _ _ _ _ _ _ hones hlt _ _ _ _ _ _ _ _ (fun d => σ.num (ix2 1 d)) (fun j l => by fin_cases j <;> pointwise) r ⟨256 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨128 + l.val, by clear * - l; omega⟩ := Fin.ext (by have e : d.val = _ := h2; subst hl; show d.val = 128 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay82_at _ _ _ _ _ _ _ _ _ _ _ r l).trans ((congrArg (fun w : EReal => (_ : EReal) * w) (pay75_at _ _ _ _)).trans (out_close
      (by show (128 + l.val) % 128 = l.val; omega)
      ((num_snd _ _ _ _ _ _ _ _ hones hlt _ _ _ _ _ _ _ _ (fun d => σ.num (ix2 1 d)) (fun j l => by fin_cases j <;> pointwise) r ⟨128 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 1 := Fin.ext (by have e : b.val = _ := h0; simp only [Fin.isValue] at e; omega)
    generalize hl : (⟨(z 2).val, z2_lt⟩ : Fin 128) = l
    obtain rfl : d = ⟨0 + l.val, by clear * - l; omega⟩ := Fin.ext (by have e : d.val = _ := h2; subst hl; show d.val = 0 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay81_at _ _ _ _ _ _ _ _ _ _ _ r l).trans ((congrArg (fun w : EReal => (_ : EReal) * w) (pay75_at _ _ _ _)).trans (out_close
      (by show (0 + l.val) % 128 = l.val; omega)
      ((num_snd _ _ _ _ _ _ _ _ hones hlt _ _ _ _ _ _ _ _ (fun d => σ.num (ix2 1 d)) (fun j l => by fin_cases j <;> pointwise) r ⟨0 + l.val, _⟩).trans
        (numN_congr (by pointwise) rfl (funext fun r => Finset.sum_congr rfl fun k _ => by pointwise)
          (funext fun k => (pay4_at _ k _).trans (by pointwise)) rfl))
      ((den_snd _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨896 + l.val, by clear * - l; omega⟩ := Fin.ext (by have e : d.val = _ := h2; subst hl; show d.val = 896 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay70_at _ _ r l).trans ((congrArg (fun w : EReal => (_ : EReal) * w) (pay60_at _ _ _ _ _ _ _ _ _ _ _ _ _ _)).trans (out_close
      (by show (896 + l.val) % 128 = l.val; omega)
      ((num_fst _ _ _ _ _ _ _ _ hones hlt _ _ _ _ _ _ _ _ (fun d => σ.num (ix2 0 d)) (fun j l => by fin_cases j <;> pointwise) r ⟨896 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨768 + l.val, by clear * - l; omega⟩ := Fin.ext (by have e : d.val = _ := h2; subst hl; show d.val = 768 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay69_at _ _ r l).trans ((congrArg (fun w : EReal => (_ : EReal) * w) (pay60_at _ _ _ _ _ _ _ _ _ _ _ _ _ _)).trans (out_close
      (by show (768 + l.val) % 128 = l.val; omega)
      ((num_fst _ _ _ _ _ _ _ _ hones hlt _ _ _ _ _ _ _ _ (fun d => σ.num (ix2 0 d)) (fun j l => by fin_cases j <;> pointwise) r ⟨768 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨640 + l.val, by clear * - l; omega⟩ := Fin.ext (by have e : d.val = _ := h2; subst hl; show d.val = 640 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay67_at _ _ r l).trans ((congrArg (fun w : EReal => (_ : EReal) * w) (pay60_at _ _ _ _ _ _ _ _ _ _ _ _ _ _)).trans (out_close
      (by show (640 + l.val) % 128 = l.val; omega)
      ((num_fst _ _ _ _ _ _ _ _ hones hlt _ _ _ _ _ _ _ _ (fun d => σ.num (ix2 0 d)) (fun j l => by fin_cases j <;> pointwise) r ⟨640 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨512 + l.val, by clear * - l; omega⟩ := Fin.ext (by have e : d.val = _ := h2; subst hl; show d.val = 512 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay66_at _ _ r l).trans ((congrArg (fun w : EReal => (_ : EReal) * w) (pay60_at _ _ _ _ _ _ _ _ _ _ _ _ _ _)).trans (out_close
      (by show (512 + l.val) % 128 = l.val; omega)
      ((num_fst _ _ _ _ _ _ _ _ hones hlt _ _ _ _ _ _ _ _ (fun d => σ.num (ix2 0 d)) (fun j l => by fin_cases j <;> pointwise) r ⟨512 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨384 + l.val, by clear * - l; omega⟩ := Fin.ext (by have e : d.val = _ := h2; subst hl; show d.val = 384 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay65_at _ _ r l).trans ((congrArg (fun w : EReal => (_ : EReal) * w) (pay60_at _ _ _ _ _ _ _ _ _ _ _ _ _ _)).trans (out_close
      (by show (384 + l.val) % 128 = l.val; omega)
      ((num_fst _ _ _ _ _ _ _ _ hones hlt _ _ _ _ _ _ _ _ (fun d => σ.num (ix2 0 d)) (fun j l => by fin_cases j <;> pointwise) r ⟨384 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨256 + l.val, by clear * - l; omega⟩ := Fin.ext (by have e : d.val = _ := h2; subst hl; show d.val = 256 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay64_at _ _ r l).trans ((congrArg (fun w : EReal => (_ : EReal) * w) (pay60_at _ _ _ _ _ _ _ _ _ _ _ _ _ _)).trans (out_close
      (by show (256 + l.val) % 128 = l.val; omega)
      ((num_fst _ _ _ _ _ _ _ _ hones hlt _ _ _ _ _ _ _ _ (fun d => σ.num (ix2 0 d)) (fun j l => by fin_cases j <;> pointwise) r ⟨256 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨128 + l.val, by clear * - l; omega⟩ := Fin.ext (by have e : d.val = _ := h2; subst hl; show d.val = 128 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay63_at _ _ r l).trans ((congrArg (fun w : EReal => (_ : EReal) * w) (pay60_at _ _ _ _ _ _ _ _ _ _ _ _ _ _)).trans (out_close
      (by show (128 + l.val) % 128 = l.val; omega)
      ((num_fst _ _ _ _ _ _ _ _ hones hlt _ _ _ _ _ _ _ _ (fun d => σ.num (ix2 0 d)) (fun j l => by fin_cases j <;> pointwise) r ⟨128 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))
  · obtain rfl : b = 0 := Fin.ext (by have e : b.val = _ := h0; simp only [Fin.isValue] at e; omega)
    generalize hl : (⟨(z 2).val, z2_lt⟩ : Fin 128) = l
    obtain rfl : d = ⟨0 + l.val, by clear * - l; omega⟩ := Fin.ext (by have e : d.val = _ := h2; subst hl; show d.val = 0 + (z 2).val; omega)
    obtain rfl : z = ix3 0 r l := by
      subst hl
      funext a
      match a with
      | ⟨0, _⟩ => exact Fin.ext (by show (z 0).val = 0; omega)
      | ⟨1, _⟩ => exact Fin.ext (show (z 1).val = r.val from h1.symm)
      | ⟨2, _⟩ => rfl
    exact (pay62_at _ _ r l).trans ((congrArg (fun w : EReal => (_ : EReal) * w) (pay60_at _ _ _ _ _ _ _ _ _ _ _ _ _ _)).trans (out_close
      (by show (0 + l.val) % 128 = l.val; omega)
      ((num_fst _ _ _ _ _ _ _ _ hones hlt _ _ _ _ _ _ _ _ (fun d => σ.num (ix2 0 d)) (fun j l => by fin_cases j <;> pointwise) r ⟨0 + l.val, _⟩).trans
        (numN_congr (by pointwise) rfl (funext fun r => Finset.sum_congr rfl fun k _ => by pointwise)
          (funext fun k => (pay3_at _ k _).trans (by pointwise)) rfl))
      ((den_fst _ _ _ _ _ _ hones hlt _ r l).trans
        (denN_congr (by pointwise) (by pointwise) (funext fun r => Finset.sum_congr rfl fun k _ => by pointwise) rfl))))

include hones hlt in
/-- The numerator left. -/
theorem numB_at (b : Fin 2) (d : Fin 1024) : numB c t x σ hc (ix2 b d) = nextNum σ.m σ.num σ.s σ.v b d 511 := by
  unfold numB pcsB runB; dsimp only; frame_out
  simp only [read_unread_whole]
  canon_tiles z h
  ·
    obtain rfl : b = 1 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay92_at _ d).trans ((num_snd _ _ _ _ _ _ _ _ hones hlt _ _ _ _ _ _ _ _ (fun d => σ.num (ix2 1 d)) (fun j l => by
        fin_cases j <;> pointwise) 511 d).trans
      (numN_congr (by pointwise) rfl (funext fun r => Finset.sum_congr rfl fun k _ => by pointwise) (funext fun k => (pay4_at _ k d).trans (by pointwise)) rfl))
  ·
    obtain rfl : b = 0 := Fin.ext (by have e : b.val = _ := h0; simp only [Fin.isValue] at e; omega)
    obtain rfl : z = ix2 0 d := by
      funext a
      match a with
      | ⟨0, _⟩ => exact Fin.ext (by show (z 0).val = 0; omega)
      | ⟨1, _⟩ => exact Fin.ext (show (z 1).val = d.val from h1.symm)
    exact (pay73_at _ d).trans ((num_fst _ _ _ _ _ _ _ _ hones hlt _ _ _ _ _ _ _ _ (fun d => σ.num (ix2 0 d)) (fun j l => by
        fin_cases j <;> pointwise) 511 d).trans
      (numN_congr (by pointwise) rfl (funext fun r => Finset.sum_congr rfl fun k _ => by pointwise) (funext fun k => (pay3_at _ k d).trans (by pointwise)) rfl))

/-- The lane sums left. -/
theorem sB_at (b : Fin 2) (r : Fin 512) (l : Fin 128) : sB c t x σ hc (ix3 b r l)
    = ∑ j : Fin 8, hidden x.x0 x.x1 x.x3 b r ⟨j.val * 128 + l.val, by omega⟩ * x.x4 (ix2 j l) := by
  unfold sB pcsB runB; dsimp only; frame_out
  exact pay1_at _ _ _ _ _ _ _ _ _ _ _ (fun j l => x.x4 (ix2 j l)) (fun j l => by fin_cases j <;> pointwise) b r l

/-- The values left. -/
theorem vB_at (b : Fin 2) (r : Fin 512) (d : Fin 1024) : vB c t x σ hc (ix3 b r d) = x.x0 (ix3 b r d) := by
  unfold vB pcsB runB; dsimp only; frame_out
  exact pay2_at _ b r d

end Cert.KernelIdeal.Own

end
-- ==== Proof.KernelIdealOwn.Blocks.lean ====
module

public import proofs.«01_k».proof.Proof.KernelIdealOwn.Frame
public import Idealize.ShloMosaic.Lib.Pipeline.ValueKit
public import Idealize.ShloMosaic.Lib.Pointwise
public import Idealize.ShloMosaic.Lib.IdealHost
public import Idealize.ShloMosaic.Lib.Claim

/-!
# The input blocks

Every input block of a grid point, read at an entry, as an entry of the program's arguments.
-/

@[expose] public section

set_option maxRecDepth 16384

noncomputable section

namespace Cert.KernelIdeal.Own

open Idealize.ShloMosaic Idealize.ShloMosaic.TcCoe Idealize.SL.Sem
open Cert.KernelIdeal Cert.KernelIdeal.Gen

variable (m : (ℓ : Loc nD τ sig) → Buf (Elt Ideal) ℓ) (c : Dev nD) (t : Fin cfg0.N)

/-- Which block of the values a point reads. -/
theorem idx0 : ∀ t : Fin cfg0.N, win0_0.index t = ![t.val / 9, min (t.val % 9) 7, 0] :=
  (by decide +kernel : ∀ t : Fin grid0.N, _)

/-- The other inputs are read whole at every point. -/
theorem idx1 : ∀ t : Fin cfg0.N, win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- Which block of the output a point owns. -/
theorem idx6 : ∀ t : Fin cfg0.N, win0_6.index t = ![t.val / 9, t.val % 9 - 1, 0] :=
  (by decide +kernel : ∀ t : Fin grid0.N, _)

/-- A point's block of values. -/
theorem blk0_at (b : Fin 2) (r : Fin 512) (d : Fin 1024) :
    (blks m c t).x0 (ix3 b r d) = m ((c : Thread nD τ).loc main_arg0)
      (ix3 ⟨t.val / 9 * 2 + b.val, by have : t.val < 36 := t.isLt; omega⟩ ⟨min (t.val % 9) 7 * 512 + r.val, by omega⟩ d) := by
  show iblk m c 0 t (ix3 b r d) = _
  blk_simp [iblk]
  rw [V_main_arg0]
  blk_ext [idx0 t]

/-- The projection, transposed. -/
theorem blk1_at (k e : Fin 1024) : (blks m c t).x1 (ix2 k e) = m ((c : Thread nD τ).loc main_arg1) (ix2 e k) := by
  show iblk m c 1 t (ix2 k e) = _
  blk_simp [iblk]
  entry_read
  pointwise
  blk_ext [(idx1 t).1]

/-- The lower triangle of ones, as the literal's words. -/
theorem lit0_at : ∀ a k : Fin 64, lit0 (S64x64.rowMajor (ix2 a k)) = if k.val ≤ a.val then 0x3F80#16 else 0#16 := by
  decide +kernel

/-- The lower triangle of ones. -/
theorem blk2_at (a k : Fin 64) : (blks m c t).x2 (ix2 a k) = if k.val ≤ a.val then (1 : EReal) else 0 := by
  show iblk m c 2 t (ix2 a k) = _
  blk_simp [iblk]
  entry_read
  have e : (win0_2.blk t).view.emb (ix2 a k) = ix2 a k := by blk_ext [(idx1 t).2.1]
  rw [e, lit0_at a k]
  by_cases h : k.val ≤ a.val
  · rw [if_pos h, if_pos h]; exact Ideal.ofBits_one_bf16
  · rw [if_neg h, if_neg h]; exact Ideal.ofBits_zero_bf16

/-- The projection's offsets. -/
theorem blk3_at (e : Fin 1024) : (blks m c t).x3 (ix2 0 e) = m ((c : Thread nD τ).loc main_arg2) (ix1 e) := by
  show iblk m c 3 t (ix2 0 e) = _
  blk_simp [iblk]
  entry_read
  pointwise
  blk_ext [(idx1 t).2.2.1]

/-- The weights of the hidden units, in eight rows of lanes. -/
theorem blk4_at (j : Fin 8) (l : Fin 128) :
    (blks m c t).x4 (ix2 j l) = m ((c : Thread nD τ).loc main_arg3) (ix1 ⟨j.val * 128 + l.val, by omega⟩) := by
  show iblk m c 4 t (ix2 j l) = _
  blk_simp [iblk]
  entry_read
  pointwise
  blk_ext [(idx1 t).2.2.2.1]

/-- The square of ones. -/
theorem blk5_at (a b : Fin 128) : (blks m c t).x5 (ix2 a b) = (1 : EReal) := by
  show iblk m c 5 t (ix2 a b) = _
  blk_simp [iblk]
  entry_read
  pointwise

end Cert.KernelIdeal.Own

end
-- ==== Proof.KernelIdealOwn.Invariant.lean ====
module

public import proofs.«01_k».proof.Proof.KernelIdealOwn.Kept
public import proofs.«01_k».proof.Proof.KernelIdealOwn.LeftA
public import proofs.«01_k».proof.Proof.KernelIdealOwn.LeftB
public import proofs.«01_k».proof.Proof.KernelIdealOwn.Blocks

/-!
# The invariant

Before position `9 b + i` of the grid the parked buffers hold block `i - 1` of the two batches of pair `b`, and the running
buffers hold the sums over the blocks before it. One point carries this on and writes the prefix averages of that block.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax Cert.Prefix

variable (m : (ℓ : Loc nD τ sig) → Buf (Elt Ideal) ℓ)

/-- The values on a device, by batch, row and column. -/
def valA (c : Dev nD) (b : Fin 8) (u : Fin 4096) (d : Fin 1024) : EReal := m ((c : Thread nD τ).loc main_arg0) (ix3 b u d)

/-- The projection on a device. -/
def projA (c : Dev nD) (e k : Fin 1024) : EReal := m ((c : Thread nD τ).loc main_arg1) (ix2 e k)

/-- The offsets on a device. -/
def offsA (c : Dev nD) (e : Fin 1024) : EReal := m ((c : Thread nD τ).loc main_arg2) (ix1 e)

/-- The weights of the hidden units on a device. -/
def unitA (c : Dev nD) (e : Fin 1024) : EReal := m ((c : Thread nD τ).loc main_arg3) (ix1 e)

/-- The batch that row `b` of a pair is, at position `n` of the grid. -/
def batch (n : ℕ) (b : Fin 2) : Fin 8 := ⟨(n / 9 * 2 + b.val) % 8, Nat.mod_lt _ (by decide)⟩

/-- The scores of the pair of batches at position `n`. -/
def scA (c : Dev nD) (n : ℕ) (b : Fin 2) : ℕ → ℝ := scoreN (valA m c) (projA m c) (offsA m c) (unitA m c) (batch n b)

/-- The values of the pair of batches at position `n`. -/
def vaA (c : Dev nD) (n : ℕ) (b : Fin 2) (d : Fin 1024) : ℕ → EReal := valN (valA m c) (batch n b) d

/-- The parked buffers hold the block before position `n`. -/
def Parked (c : Dev nD) (n : ℕ) (σ : Scr Ideal) : Prop :=
  (∀ b (r : Fin 512), rowS σ.s b r = ((scA m c n b ((n % 9 - 1) * 512 + r.val) : ℝ) : EReal))
    ∧ ∀ b (r : Fin 512) d, σ.v (ix3 b r d) = vaA m c n b d ((n % 9 - 1) * 512 + r.val)

/-- What holds of the scratch before position `n`. -/
def Inv (c : Dev nD) (n : ℕ) (σ : Scr Ideal) : Prop :=
  (1 ≤ n % 9 → Parked m c n σ)
    ∧ (2 ≤ n % 9 → Kept (scA m c n) (vaA m c n) ((n % 9 - 1) * 512) σ.m σ.den σ.num)

/-- What a point leaves in the output's staging buffer: the prefix averages of its block. -/
def Out (c : Dev nD) (t : Fin cfg0.N) (X : Vec Ideal S2x512x1024 .f32) : Prop :=
  t.val % 9 ≠ 0 → ∀ b (r : Fin 512) d, X (ix3 b r d)
    = result (valA m c) (projA m c) (offsA m c) (unitA m c) (batch t.val b) ((t.val % 9 - 1) * 512 + r.val) d

/-- Nothing holds before the first point. -/
theorem inv_zero (c : Dev nD) (σ : Scr Ideal) : Inv m c 0 σ :=
  ⟨fun h => absurd h (by decide), fun h => absurd h (by decide)⟩

/-- The next position of the same sequence has the same batches. -/
theorem batch_succ (n : ℕ) (h : 1 ≤ (n + 1) % 9) (b : Fin 2) : batch (n + 1) b = batch n b := by
  unfold batch
  exact Fin.ext (congrArg (fun k => (k * 2 + b.val) % 8) (by omega))

variable (hQ : ∀ c e, ∃ r : ℝ, unitA m c e = (r : EReal))

include hQ

/-- The lane sums of a block, gathered, are the scores of its rows. -/
theorem scores_of_blk (c : Dev nD) (t : Fin cfg0.N) (h : t.val % 9 ≤ 7) (s : Vec Ideal S2x512x128 .f32)
    (hs : ∀ b r l, s (ix3 b r l) = ∑ j : Fin 8, hidden (blks m c t).x0 (blks m c t).x1 (blks m c t).x3 b r ⟨j.val * 128 + l.val, by omega⟩
      * (blks m c t).x4 (ix2 j l)) (b : Fin 2) (r : Fin 512) :
    rowS s b r = ((scA m c t.val b (t.val % 9 * 512 + r.val) : ℝ) : EReal) := by
  have ht : t.val < 36 := t.isLt
  have hu : t.val % 9 * 512 + r.val < 4096 := by omega
  refine Eq.trans ?_ (score_coe _ _ _ _ (hQ c) (batch t.val b) ⟨_, hu⟩)
  rw [← score_lanes]
  unfold rowS
  refine Finset.sum_congr rfl fun l _ => ?_
  rw [hs]
  refine Finset.sum_congr rfl fun j _ => ?_
  unfold hidden Cert.Prefix.unit
  rw [blk4_at, blk3_at]
  simp only [blk0_at, blk1_at]
  have e1 : (⟨t.val / 9 * 2 + b.val, by omega⟩ : Fin 8) = batch t.val b := by
    unfold batch; exact Fin.ext (Nat.mod_eq_of_lt (by omega)).symm
  have e2 : (⟨min (t.val % 9) 7 * 512 + r.val, by omega⟩ : Fin 4096) = ⟨t.val % 9 * 512 + r.val, hu⟩ :=
    Fin.ext (by show min (t.val % 9) 7 * 512 + r.val = _; rw [min_eq_left h])
  rw [e1, e2]
  rfl

omit hQ in
/-- The values of a block are those of its rows. -/
theorem values_of_blk (c : Dev nD) (t : Fin cfg0.N) (h : t.val % 9 ≤ 7) (b : Fin 2) (r : Fin 512) (d : Fin 1024) :
    (blks m c t).x0 (ix3 b r d) = vaA m c t.val b d (t.val % 9 * 512 + r.val) := by
  have ht : t.val < 36 := t.isLt
  have hu : t.val % 9 * 512 + r.val < 4096 := by omega
  refine Eq.trans ?_ (valN_at _ (batch t.val b) d ⟨_, hu⟩).symm
  rw [blk0_at]
  have e1 : (⟨t.val / 9 * 2 + b.val, by omega⟩ : Fin 8) = batch t.val b := by
    unfold batch; exact Fin.ext (Nat.mod_eq_of_lt (by omega)).symm
  have e2 : (⟨min (t.val % 9) 7 * 512 + r.val, by omega⟩ : Fin 4096) = ⟨t.val % 9 * 512 + r.val, hu⟩ :=
    Fin.ext (by show min (t.val % 9) 7 * 512 + r.val = _; rw [min_eq_left h])
  rw [e1, e2]
  rfl

/-- What a point parks is what the next position wants parked. -/
theorem parked_next (c : Dev nD) (t : Fin cfg0.N) (h : 1 ≤ (t.val + 1) % 9) (σ : Scr Ideal)
    (hs : ∀ b r l, σ.s (ix3 b r l) = ∑ j : Fin 8, hidden (blks m c t).x0 (blks m c t).x1 (blks m c t).x3 b r ⟨j.val * 128 + l.val, by omega⟩
      * (blks m c t).x4 (ix2 j l)) (hv : ∀ b r d, σ.v (ix3 b r d) = (blks m c t).x0 (ix3 b r d)) : Parked m c (t.val + 1) σ := by
  have e : (t.val + 1) % 9 - 1 = t.val % 9 := by omega
  refine ⟨fun b r => ?_, fun b r d => ?_⟩
  · unfold scA; rw [batch_succ _ h, e]
    exact scores_of_blk m hQ c t (by omega) σ.s hs b r
  · unfold vaA; rw [batch_succ _ h, e, hv]
    exact values_of_blk m c t (by omega) b r d

omit hQ in
/-- The state after a point is what the next position wants kept. -/
theorem kept_succ (c : Dev nD) (n : ℕ) (h : 2 ≤ (n + 1) % 9) {a d : Vec Ideal S2x128 .f32} {p : Vec Ideal S2x1024 .f32}
    (hk : Kept (scA m c n) (vaA m c n) ((n % 9 - 1) * 512 + 512) a d p) :
    Kept (scA m c (n + 1)) (vaA m c (n + 1)) (((n + 1) % 9 - 1) * 512) a d p := by
  have e : ((n + 1) % 9 - 1) * 512 = (n % 9 - 1) * 512 + 512 := by omega
  have e1 : scA m c (n + 1) = scA m c n := funext fun b => by unfold scA; rw [batch_succ _ (by omega)]
  have e2 : vaA m c (n + 1) = vaA m c n := funext fun b => by unfold vaA; rw [batch_succ _ (by omega)]
  rw [e, e1, e2]
  exact hk

/-- The first block of a pair of batches, from the starting state. -/
theorem stepA (c : Dev nD) (t : Fin cfg0.N) (σ : Scr Ideal) (h : Inv m c t.val σ) (hc : first (grid0.coords t)) :
    Inv m c (t.val + 1) ⟨mA c t (blks m c t) σ hc, denA c t (blks m c t) σ hc, numA c t (blks m c t) σ hc, sA c t (blks m c t) σ hc, vA c t (blks m c t) σ hc⟩
      ∧ Out m c t (outA c t (blks m c t) σ hc) := by
  have ho := outA_at c t (blks m c t) σ hc (blk5_at m c t) (blk2_at m c t)
  have hm := mA_at c t (blks m c t) σ hc (blk5_at m c t)
  have hd := denA_at c t (blks m c t) σ hc (blk5_at m c t) (blk2_at m c t)
  have hn := numA_at c t (blks m c t) σ hc (blk5_at m c t) (blk2_at m c t)
  have hs := sA_at c t (blks m c t) σ hc
  have hv := vA_at c t (blks m c t) σ hc
  generalize outA c t (blks m c t) σ hc = o' at ho ⊢
  generalize mA c t (blks m c t) σ hc = m' at hm ⊢
  generalize denA c t (blks m c t) σ hc = den' at hd ⊢
  generalize numA c t (blks m c t) σ hc = num' at hn ⊢
  generalize sA c t (blks m c t) σ hc = s' at hs ⊢
  generalize vA c t (blks m c t) σ hc = v' at hv ⊢
  have h1 : t.val % 9 = 1 := (first_iff t).1 hc
  have hk : 1 ≤ t.val % 9 → Kept (scA m c t.val) (vaA m c t.val) ((t.val % 9 - 1) * 512) startM startDen startNum := by
    rw [h1]; exact fun _ => kept_start _ _
  refine ⟨⟨fun h => parked_next m hQ c t h _ hs hv, fun h' => kept_succ m c _ h' ?_⟩, fun h' b r d => ?_⟩
  · have hp := h.1 (by omega)
    exact kept_next hp.1 hp.2 (hk (by omega)) hm hd hn
  · have hp := h.1 (by omega)
    rw [ho]
    exact out_next hp.1 hp.2 (hk (by omega)) b r d

/-- A later block, from the state kept. -/
theorem stepB (c : Dev nD) (t : Fin cfg0.N) (σ : Scr Ideal) (h : Inv m c t.val σ) (hc : ¬ first (grid0.coords t)) :
    Inv m c (t.val + 1) ⟨mB c t (blks m c t) σ hc, denB c t (blks m c t) σ hc, numB c t (blks m c t) σ hc, sB c t (blks m c t) σ hc, vB c t (blks m c t) σ hc⟩
      ∧ Out m c t (outB c t (blks m c t) σ hc) := by
  have ho := outB_at c t (blks m c t) σ hc (blk5_at m c t) (blk2_at m c t)
  have hm := mB_at c t (blks m c t) σ hc (blk5_at m c t)
  have hd := denB_at c t (blks m c t) σ hc (blk5_at m c t) (blk2_at m c t)
  have hn := numB_at c t (blks m c t) σ hc (blk5_at m c t) (blk2_at m c t)
  have hs := sB_at c t (blks m c t) σ hc
  have hv := vB_at c t (blks m c t) σ hc
  generalize outB c t (blks m c t) σ hc = o' at ho ⊢
  generalize mB c t (blks m c t) σ hc = m' at hm ⊢
  generalize denB c t (blks m c t) σ hc = den' at hd ⊢
  generalize numB c t (blks m c t) σ hc = num' at hn ⊢
  generalize sB c t (blks m c t) σ hc = s' at hs ⊢
  generalize vB c t (blks m c t) σ hc = v' at hv ⊢
  have h1 : ¬ t.val % 9 = 1 := fun e => hc ((first_iff t).2 e)
  have hk : 1 ≤ t.val % 9 → Kept (scA m c t.val) (vaA m c t.val) ((t.val % 9 - 1) * 512) σ.m σ.den σ.num :=
    fun h' => h.2 (by omega)
  refine ⟨⟨fun h => parked_next m hQ c t h _ hs hv, fun h' => kept_succ m c _ h' ?_⟩, fun h' b r d => ?_⟩
  · have hp := h.1 (by omega)
    exact kept_next hp.1 hp.2 (hk (by omega)) hm hd hn
  · have hp := h.1 (by omega)
    rw [ho]
    exact out_next hp.1 hp.2 (hk (by omega)) b r d

/-- One point carries the invariant on and writes the prefix averages of its block. -/
theorem step (c : Dev nD) (t : Fin cfg0.N) (σ : Scr Ideal) (h : Inv m c t.val σ) :
    Inv m c (t.val + 1) (stepScr c t (blks m c t) σ) ∧ Out m c t (stepOut c t (blks m c t) σ) := by
  by_cases hc : first (grid0.coords t)
  · rw [show stepOut c t (blks m c t) σ = outA c t (blks m c t) σ hc from dif_pos hc,
      show stepScr c t (blks m c t) σ = _ from dif_pos hc]
    exact stepA m hQ c t σ h hc
  · rw [show stepOut c t (blks m c t) σ = outB c t (blks m c t) σ hc from dif_neg hc,
      show stepScr c t (blks m c t) σ = _ from dif_neg hc]
    exact stepB m hQ c t σ h hc

end Cert.KernelIdeal.Own

end
-- ==== Proof.KernelIdealOwn.Result.lean ====
module

public import proofs.«01_k».proof.Proof.KernelIdealOwn.Invariant

/-!
# What the kernel leaves in its result array

Every block written back holds the prefix averages of its rows, and the blocks cover the array.
-/

@[expose] public section

set_option maxRecDepth 16384

noncomputable section

namespace Cert.KernelIdeal.Own

open Idealize.ShloMosaic Idealize.ShloMosaic.TcCoe Idealize.SL.Sem
open Cert.KernelIdeal Cert.KernelIdeal.Gen Cert.Softmax Cert.Prefix

variable (m : (ℓ : Loc nD τ sig) → Buf (Elt Ideal) ℓ) (ρ : Dev nD → PrngReg)

/-- The prefix averages of a device's arguments, as the result array. -/
def averages (c : Dev nD) : Buf (Elt Ideal) ((c.tc : Thread nD τ).loc main_v5) := fun i =>
  result (valA m c) (projA m c) (offsA m c) (unitA m c) (i 0) (i 1).val (i 2)

/-- A point whose block is written back is not the first of its pair of batches. -/
theorem flush_ne : ∀ t : Fin cfg0.N, win0_6.flush t = true → t.val % 9 ≠ 0 :=
  (by decide +kernel : ∀ t : Fin grid0.N, _)

/-- The blocks written back, each with the prefix averages of its rows, make up the array of averages. -/
theorem array_eq (c : Dev nD) (D : Pipeline.Dat τ (Elt Ideal) Unit ℕ (UR sig nD τ) ℕ cfg0 c)
    (hD : ∀ t, win0_6.flush t = true → Out m c t (D.after 6 t)) : D.arrAt 6 cfg0.N = averages m c := by
  refine D.arrAt_eq_of_covers 6 _ (by decide +kernel) fun t hf y => ?_
  have hf' : win0_6.flush t = true := hf
  have h := hD t hf' (flush_ne t hf')
  obtain ⟨b, r, d, rfl⟩ : ∃ (b : Fin 2) (r : Fin 512) (d : Fin 1024), y = ix3 b r d := ⟨y 0, y 1, y 2, eq_ix3 y⟩
  have ht : t.val < 36 := t.isLt
  have e : (win0_6.blk t).view.emb (ix3 b r d) = ix3 (batch t.val b) ⟨(t.val % 9 - 1) * 512 + r.val, by omega⟩ d := by
    unfold batch
    blk_ext [idx6 t]
  blk_simp
  rw [e]
  exact h b r d

/-- The run: every execution terminates with the prefix averages in the result array and the arguments as launched. -/
theorem run (hQ : ∀ c e, ∃ r : ℝ, unitA m c e = (r : EReal)) :
    θ_run defs (onTc (τ := τ) (main (F := Ideal))) ⟨m, fun _ => 0, ρ⟩ (fun r => ∀ c : Dev nD,
      r.2.mem ((c.tc : Thread nD τ).loc main_v5) = averages m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, args_kept m (Inv m) (Out m) h.1 c⟩)
    (run_main m ρ (Inv m) (Out m) (fun c t σ => step m hQ c t σ) (inv_zero m))
  obtain ⟨after, hl, ha⟩ := Pipeline.RDat.FramePost.exists_exact h.1 c
  refine (ha 6).trans (array_eq m c _ fun t hf => ?_)
  have hL := Pipeline.Dat.toRRel_leaves (dat m (Inv m) c) (fgt := marked) (Rl := prop (Out m) c) (w := 6) rfl (hl 6 t hf)
  exact hL

end Cert.KernelIdeal.Own

end
-- ==== Proof.lean ====
module

public import proofs.«01_k».proof.Defs
public import proofs.«01_k».proof.Proof.Finite
public import proofs.«01_k».proof.Proof.ReferenceValue
public import proofs.«01_k».proof.Proof.KernelOwn.Frame
public import proofs.«01_k».proof.Proof.KernelIdealOwn.Result

@[expose] public section

noncomputable section

namespace Cert.Proof

open Idealize.ShloMosaic Idealize.ShloMosaic.TcCoe Idealize.SL.Sem

/-- The kernel on bits keeps its arguments and ends with every counter at zero. -/
theorem frame_kernel : Cert.quiescent_Kernel (hKernel := Cert.Kernel.Gen.facts) :=
  fun m ρ _ => Cert.Kernel.Own.frame (F := Bits) m ρ

/-- So does the kernel over the extended reals. -/
theorem frame_ideal : Cert.quiescent_KernelIdeal (hKernelIdeal := Cert.KernelIdeal.Gen.facts) :=
  fun m ρ _ => Cert.KernelIdeal.Own.frame (F := Ideal) m ρ

/-- It does so under the precondition too. -/
theorem frame_ideal_pre : Cert.quiescent_KernelIdeal_pre_finite (hKernelIdeal := Cert.KernelIdeal.Gen.facts)
    (hPre_finite := Cert.Pre_finite.facts) :=
  fun m ρ _ => Cert.KernelIdeal.Own.frame (F := Ideal) m ρ

/-- The reference is a straight-line host program that declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_reference_pre : Cert.quiescent_ReferenceIdeal_pre_finite (hReferenceIdeal := Cert.ReferenceIdeal.Gen.facts)
    (hPre_finite := Cert.Pre_finite.facts) := fun m ρ _ => frame_reference m ρ trivial

/-- On equal arguments with finite weights of the hidden units the two results are equal. -/
theorem value : Cert.algebraic_KernelIdeal_ReferenceIdeal_pre_finite (hKernelIdeal := Cert.KernelIdeal.Gen.facts)
    (hReferenceIdeal := Cert.ReferenceIdeal.Gen.facts) (hPre_finite := Cert.Pre_finite.facts) := fun m g m' g' hpre hargs => by
  haveI := Cert.Pre_finite.facts
  have hQ : ∀ c e, ∃ r : ℝ, Cert.KernelIdeal.Own.unitA m c e = (r : EReal) := fun c e =>
    Cert.Pre_finite.real_of_pre _ _ _ _ (hpre c) e
  refine ⟨Cert.KernelIdeal.Own.averages m, Cert.KernelIdeal.Own.run m g hQ, ?_⟩
  refine (θ_run Cert.ReferenceIdeal.defs _ _).mono (fun r h c => ⟨(h c).1.trans (funext fun i => ?_), (h c).2⟩)
    (Cert.ReferenceIdeal.Own.run m' g' (fun c => m ((c.tc : Thread Cert.KernelIdeal.nD Cert.KernelIdeal.τ).loc Cert.KernelIdeal.main_arg0))
      (fun c => m ((c.tc : Thread Cert.KernelIdeal.nD Cert.KernelIdeal.τ).loc Cert.KernelIdeal.main_arg1))
      (fun c => m ((c.tc : Thread Cert.KernelIdeal.nD Cert.KernelIdeal.τ).loc Cert.KernelIdeal.main_arg2))
      (fun c => m ((c.tc : Thread Cert.KernelIdeal.nD Cert.KernelIdeal.τ).loc Cert.KernelIdeal.main_arg3))
      (fun c => (hargs c).1) (fun c => (hargs c).2.1) (fun c => (hargs c).2.2.1) fun c => (hargs c).2.2.2)
  obtain ⟨b, t, d, rfl⟩ : ∃ (b : Fin 8) (t : Fin 4096) (d : Fin 1024), i = ix3 b t d := ⟨i 0, i 1, i 2, eq_ix3 i⟩
  exact Cert.ReferenceIdeal.Own.result_at _ _ _ _ (hQ c) b t d

theorem claim : Cert.Claim := ⟨Cert.Kernel.Gen.facts, Cert.KernelIdeal.Gen.facts, Cert.ReferenceIdeal.Gen.facts,
  Cert.Pre_finite.facts, frame_kernel, frame_ideal, frame_ideal_pre, frame_reference, frame_reference_pre, trivial, value⟩

end Cert.Proof

end
